-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.bf16_pair.PackStatement Cert.KernelIdeal.S128x640
  ∧ IdealRules.bf16_pair.Statement Cert.KernelIdeal.S128x2x128 Cert.KernelIdeal.S128x1x128
  ∧ IdealRules.bf16_pair.Statement Cert.KernelIdeal.S16x128 Cert.KernelIdeal.S8x128

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_v11)) (v2 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_v11) = v1 c
          ∧ r.2.mem ((c.tc : Thread Cert.KernelIdeal.nD Cert.KernelIdeal.τ).loc Cert.KernelIdeal.main_v13) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x4096x16x1024 : Shape := ⟨4, ![4, 4096, 16, 1024]⟩
abbrev S16x1024x640 : Shape := ⟨3, ![16, 1024, 640]⟩
abbrev S16x640 : Shape := ⟨2, ![16, 640]⟩
abbrev S16 : Shape := ⟨1, ![16]⟩
abbrev S16384x2x8x8x128 : Shape := ⟨5, ![16384, 2, 8, 8, 128]⟩
abbrev S2097152x128 : Shape := ⟨2, ![2097152, 128]⟩
abbrev S16x1 : Shape := ⟨2, ![16, 1]⟩
abbrev S16x128 : Shape := ⟨2, ![16, 128]⟩
abbrev S1310720x128 : Shape := ⟨2, ![1310720, 128]⟩
abbrev S16384x128 : Shape := ⟨2, ![16384, 128]⟩
abbrev S10240x128 : Shape := ⟨2, ![10240, 128]⟩
abbrev S8736x128 : Shape := ⟨2, ![8736, 128]⟩
abbrev S16x128x1024 : Shape := ⟨3, ![16, 128, 1024]⟩
abbrev S8x128 : Shape := ⟨2, ![8, 128]⟩
abbrev S1x128x1024 : Shape := ⟨3, ![1, 128, 1024]⟩
abbrev S128x1024 : Shape := ⟨2, ![128, 1024]⟩
abbrev S1x1024x640 : Shape := ⟨3, ![1, 1024, 640]⟩
abbrev S1024x640 : Shape := ⟨2, ![1024, 640]⟩
abbrev S128x640 : Shape := ⟨2, ![128, 640]⟩
abbrev S1x640 : Shape := ⟨2, ![1, 640]⟩
abbrev S128x128 : Shape := ⟨2, ![128, 128]⟩
abbrev S5120x128 : Shape := ⟨2, ![5120, 128]⟩
abbrev S5120x2x128 : Shape := ⟨3, ![5120, 2, 128]⟩
abbrev S128x2x128 : Shape := ⟨3, ![128, 2, 128]⟩
abbrev S128x1x128 : Shape := ⟨3, ![128, 1, 128]⟩
abbrev S2176x128 : Shape := ⟨2, ![2176, 128]⟩
abbrev S32x68x128 : Shape := ⟨3, ![32, 68, 128]⟩
abbrev S32x8x128 : Shape := ⟨3, ![32, 8, 128]⟩
abbrev S8x32x128 : Shape := ⟨3, ![8, 32, 128]⟩
abbrev S8192x128 : Shape := ⟨2, ![8192, 128]⟩
abbrev S32x128 : Shape := ⟨2, ![32, 128]⟩
abbrev S16384x2x5x8x128 : Shape := ⟨5, ![16384, 2, 5, 8, 128]⟩
abbrev S16384x2x8x5x128 : Shape := ⟨5, ![16384, 2, 8, 5, 128]⟩
abbrev S4x4096x16x640 : Shape := ⟨4, ![4, 4096, 16, 640]⟩

abbrev nBuf : Space → Nat
  | .hbm => 20
  | .vmem => 15
  | .smem => 0
  | _ => 0

abbrev bufTy : (tb : Table) → Fin (tcTables nBuf tb) → BufTy
  | .hbm, ⟨0, _⟩ => ⟨S4x4096x16x1024, .bf16⟩
  | .hbm, ⟨1, _⟩ => ⟨S16x1024x640, .fp8e4m3⟩
  | .hbm, ⟨2, _⟩ => ⟨S16x640, .f32⟩
  | .hbm, ⟨3, _⟩ => ⟨S16, .f32⟩
  | .hbm, ⟨4, _⟩ => ⟨S16384x2x8x8x128, .bf16⟩
  | .hbm, ⟨5, _⟩ => ⟨S16384x2x8x8x128, .bf16⟩
  | .hbm, ⟨6, _⟩ => ⟨S2097152x128, .bf16⟩
  | .hbm, ⟨7, _⟩ => ⟨S16x1, .f32⟩
  | .hbm, ⟨8, _⟩ => ⟨S16x128, .f32⟩
  | .hbm, ⟨9, _⟩ => ⟨S1310720x128, .bf16⟩
  | .hbm, ⟨10, _⟩ => ⟨S2097152x128, .fp8e4m3⟩
  | .hbm, ⟨11, _⟩ => ⟨S16x128, .f32⟩
  | .hbm, ⟨12, _⟩ => ⟨S16384x2x5x8x128, .bf16⟩
  | .hbm, ⟨13, _⟩ => ⟨S16384x2x8x5x128, .bf16⟩
  | .hbm, ⟨14, _⟩ => ⟨S16384x2x8x8x128, .fp8e4m3⟩
  | .hbm, ⟨15, _⟩ => ⟨S16384x2x8x8x128, .fp8e4m3⟩
  | .hbm, ⟨16, _⟩ => ⟨S4x4096x16x640, .bf16⟩
  | .hbm, ⟨17, _⟩ => ⟨S4x4096x16x1024, .fp8e4m3⟩
  | .hbm, ⟨18, _⟩ => ⟨S16x1, .f32⟩
  | .hbm, ⟨19, _⟩ => ⟨S16, .f32⟩
  | .local _ .vmem, ⟨0, _⟩ => ⟨S16384x128, .bf16⟩
  | .local _ .vmem, ⟨1, _⟩ => ⟨S16384x128, .bf16⟩
  | .local _ .vmem, ⟨2, _⟩ => ⟨S16x1024x640, .fp8e4m3⟩
  | .local _ .vmem, ⟨3, _⟩ => ⟨S16x640, .f32⟩
  | .local _ .vmem, ⟨4, _⟩ => ⟨S16x128, .f32⟩
  | .local _ .vmem, ⟨5, _⟩ => ⟨S10240x128, .bf16⟩
  | .local _ .vmem, ⟨6, _⟩ => ⟨S10240x128, .bf16⟩
  | .local _ .vmem, ⟨7, _⟩ => ⟨S16384x128, .fp8e4m3⟩
  | .local _ .vmem, ⟨8, _⟩ => ⟨S16384x128, .fp8e4m3⟩
  | .local _ .vmem, ⟨9, _⟩ => ⟨S16x128, .f32⟩
  | .local _ .vmem, ⟨10, _⟩ => ⟨S8736x128, .fp8e4m3⟩
  | .local _ .vmem, ⟨11, _⟩ => ⟨S8736x128, .fp8e4m3⟩
  | .local _ .vmem, ⟨12, _⟩ => ⟨S16x128x1024, .fp8e4m3⟩
  | .local _ .vmem, ⟨13, _⟩ => ⟨S16x640, .f32⟩
  | .local _ .vmem, ⟨14, _⟩ => ⟨S16x128, .f32⟩
  | _, _ => ⟨S4x4096x16x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9

abbrev nD : Nat := 1
abbrev τ : Topo := Topo.v7x

variable {F : FTy → Type} [BitOps F]

abbrev grid0 : Pipeline.Grid := ⟨1, ![129], ![false]⟩

@[reducible] def k0_t1_loop : Scf.Loop 32 :=
  let c0_i32_95 : BitVec 32 := 0#32
  let c4_i32 : BitVec 32 := 4#32
  let v136 : BitVec 32 := Scalar.addi c0_i32_95 c4_i32
  let c1_i32 : BitVec 32 := 1#32
  ⟨c0_i32_95, v136, c1_i32⟩
def k0_off1 (k0_t1 : Fin k0_t1_loop.trips) : Fin 2 → Nat :=
  let c0_i32_95 : BitVec 32 := 0#32
  let c1_i32 : BitVec 32 := 1#32
  let arg13 : BitVec 32 := Scf.iv c0_i32_95 c1_i32 k0_t1
  let c32_i32 : BitVec 32 := 32#32
  let v304 : BitVec 32 := Scalar.muli arg13 c32_i32
  let c17_i32 : BitVec 32 := 17#32
  let v305 : BitVec 32 := Scalar.muli v304 c17_i32
  let c4_i32_215 : BitVec 32 := 4#32
  let v306 : BitVec 32 := Scalar.muli v305 c4_i32_215
  let v307 : Index := Scalar.indexCast v306
  let c0_216 : Index := 0#32
  ![v307.toNat, 0]
def k0_off2 (k0_t1 : Fin k0_t1_loop.trips) : Fin 3 → Nat :=
  let c8_217 : Index := 8#32
  let c0_i32_95 : BitVec 32 := 0#32
  let c1_i32 : BitVec 32 := 1#32
  let arg13 : BitVec 32 := Scf.iv c0_i32_95 c1_i32 k0_t1
  let c32_i32 : BitVec 32 := 32#32
  let v304 : BitVec 32 := Scalar.muli arg13 c32_i32
  let v312 : Index := Scalar.indexCast v304
  let c0_218 : Index := 0#32
  ![8, v312.toNat, 0]
def k0_off3 (k0_t1 : Fin k0_t1_loop.trips) : Fin 3 → Nat :=
  let c8_219 : Index := 8#32
  let c0_i32_95 : BitVec 32 := 0#32
  let c1_i32 : BitVec 32 := 1#32
  let arg13 : BitVec 32 := Scf.iv c0_i32_95 c1_i32 k0_t1
  let c32_i32 : BitVec 32 := 32#32
  let v304 : BitVec 32 := Scalar.muli arg13 c32_i32
  let v318 : Index := Scalar.indexCast v304
  let c128 : Index := 128#32
  ![8, v318.toNat, 128]
def k0_off4 (k0_t1 : Fin k0_t1_loop.trips) : Fin 3 → Nat :=
  let c8_220 : Index := 8#32
  let c0_i32_95 : BitVec 32 := 0#32
  let c1_i32 : BitVec 32 := 1#32
  let arg13 : BitVec 32 := Scf.iv c0_i32_95 c1_i32 k0_t1
  let c32_i32 : BitVec 32 := 32#32
  let v304 : BitVec 32 := Scalar.muli arg13 c32_i32
  let v324 : Index := Scalar.indexCast v304
  let c256 : Index := 256#32
  ![8, v324.toNat, 256]
def k0_off5 (k0_t1 : Fin k0_t1_loop.trips) : Fin 3 → Nat :=
  let c8_221 : Index := 8#32
  let c0_i32_95 : BitVec 32 := 0#32
  let c1_i32 : BitVec 32 := 1#32
  let arg13 : BitVec 32 := Scf.iv c0_i32_95 c1_i32 k0_t1
  let c32_i32 : BitVec 32 := 32#32
  let v304 : BitVec 32 := Scalar.muli arg13 c32_i32
  let v330 : Index := Scalar.indexCast v304
  let c384 : Index := 384#32
  ![8, v330.toNat, 384]
def k0_off6 (k0_t1 : Fin k0_t1_loop.trips) : Fin 3 → Nat :=
  let c8_222 : Index := 8#32
  let c0_i32_95 : BitVec 32 := 0#32
  let c1_i32 : BitVec 32 := 1#32
  let arg13 : BitVec 32 := Scf.iv c0_i32_95 c1_i32 k0_t1
  let c32_i32 : BitVec 32 := 32#32
  let v304 : BitVec 32 := Scalar.muli arg13 c32_i32
  let v336 : Index := Scalar.indexCast v304
  let c512 : Index := 512#32
  ![8, v336.toNat, 512]
def k0_off7 (k0_t1 : Fin k0_t1_loop.trips) : Fin 3 → Nat :=
  let c8_223 : Index := 8#32
  let c0_i32_95 : BitVec 32 := 0#32
  let c1_i32 : BitVec 32 := 1#32
  let arg13 : BitVec 32 := Scf.iv c0_i32_95 c1_i32 k0_t1
  let c32_i32 : BitVec 32 := 32#32
  let v304 : BitVec 32 := Scalar.muli arg13 c32_i32
  let v342 : Index := Scalar.indexCast v304
  let c640 : Index := 640#32
  ![8, v342.toNat, 640]
def k0_off8 (k0_t1 : Fin k0_t1_loop.trips) : Fin 3 → Nat :=
  let c8_224 : Index := 8#32
  let c0_i32_95 : BitVec 32 := 0#32
  let c1_i32 : BitVec 32 := 1#32
  let arg13 : BitVec 32 := Scf.iv c0_i32_95 c1_i32 k0_t1
  let c32_i32 : BitVec 32 := 32#32
  let v304 : BitVec 32 := Scalar.muli arg13 c32_i32
  let v348 : Index := Scalar.indexCast v304
  let c768 : Index := 768#32
  ![8, v348.toNat, 768]
def k0_off9 (k0_t1 : Fin k0_t1_loop.trips) : Fin 3 → Nat :=
  let c8_225 : Index := 8#32
  let c0_i32_95 : BitVec 32 := 0#32
  let c1_i32 : BitVec 32 := 1#32
  let arg13 : BitVec 32 := Scf.iv c0_i32_95 c1_i32 k0_t1
  let c32_i32 : BitVec 32 := 32#32
  let v304 : BitVec 32 := Scalar.muli arg13 c32_i32
  let v354 : Index := Scalar.indexCast v304
  let c896 : Index := 896#32
  ![8, v354.toNat, 896]
@[reducible] def k0_t2_loop : Scf.Loop 32 :=
  let c0_i32_98 : BitVec 32 := 0#32
  let c128_i32 : BitVec 32 := 128#32
  let v138 : BitVec 32 := Scalar.addi c0_i32_98 c128_i32
  let c1_i32_99 : BitVec 32 := 1#32
  ⟨c0_i32_98, v138, c1_i32_99⟩
def k0_off10 (k0_t2 : Fin k0_t2_loop.trips) (c0_i32_216 : BitVec 32) : Fin 2 → Nat :=
  let c0_i32_98 : BitVec 32 := 0#32
  let c1_i32_99 : BitVec 32 := 1#32
  let arg13 : BitVec 32 := Scf.iv c0_i32_98 c1_i32_99 k0_t2
  let c2_i32 : BitVec 32 := 2#32
  let v304 : BitVec 32 := Scalar.muli arg13 c2_i32
  let c32_i32 : BitVec 32 := 32#32
  let v305 : BitVec 32 := Scalar.muli v304 c32_i32
  let c0_i32_215 : BitVec 32 := 0#32
  let v306 : BitVec 32 := Scalar.addi v305 c0_i32_215
  let v307 : BitVec 32 := Scalar.addi v306 c0_i32_216
  let v309 : Index := Scalar.indexCast v307
  let c0_217 : Index := 0#32
  ![Nat.mul 2 v309.toNat, 0]
def k0_off11 (k0_t2 : Fin k0_t2_loop.trips) (c0_i32_228 : BitVec 32) : Fin 2 → Nat :=
  let c0_i32_98 : BitVec 32 := 0#32
  let c1_i32_99 : BitVec 32 := 1#32
  let arg13 : BitVec 32 := Scf.iv c0_i32_98 c1_i32_99 k0_t2
  let c2_i32_226 : BitVec 32 := 2#32
  let v340 : BitVec 32 := Scalar.muli arg13 c2_i32_226
  let c16_i32 : BitVec 32 := 16#32
  let v341 : BitVec 32 := Scalar.muli v340 c16_i32
  let c0_i32_227 : BitVec 32 := 0#32
  let v342 : BitVec 32 := Scalar.addi v341 c0_i32_227
  let v343 : BitVec 32 := Scalar.addi v342 c0_i32_228
  let c4_i32_229 : BitVec 32 := 4#32
  let v344 : BitVec 32 := Scalar.muli v343 c4_i32_229
  let v345 : Index := Scalar.indexCast v344
  let c0_230 : Index := 0#32
  ![v345.toNat, 0]
def k0_off12 (k0_t2 : Fin k0_t2_loop.trips) (c0_i32_231 : BitVec 32) : Fin 2 → Nat :=
  let c0_i32_98 : BitVec 32 := 0#32
  let c1_i32_99 : BitVec 32 := 1#32
  let arg13 : BitVec 32 := Scf.iv c0_i32_98 c1_i32_99 k0_t2
  let c17_i32 : BitVec 32 := 17#32
  let v347 : BitVec 32 := Scalar.muli arg13 c17_i32
  let v348 : BitVec 32 := Scalar.addi v347 c0_i32_231
  let c4_i32_232 : BitVec 32 := 4#32
  let v349 : BitVec 32 := Scalar.muli v348 c4_i32_232
  let v350 : Index := Scalar.indexCast v349
  let c0_233 : Index := 0#32
  ![v350.toNat, 0]
@[reducible] def k0_t3_loop : Scf.Loop 32 :=
  let c0_i32_200 : BitVec 32 := 0#32
  let c4_i32_201 : BitVec 32 := 4#32
  let v285 : BitVec 32 := Scalar.addi c0_i32_200 c4_i32_201
  let c1_i32_202 : BitVec 32 := 1#32
  ⟨c0_i32_200, v285, c1_i32_202⟩
def k0_off13 (k0_t3 : Fin k0_t3_loop.trips) : Fin 2 → Nat :=
  let c0_i32_200 : BitVec 32 := 0#32
  let c1_i32_202 : BitVec 32 := 1#32
  let arg13 : BitVec 32 := Scf.iv c0_i32_200 c1_i32_202 k0_t3
  let c32_i32 : BitVec 32 := 32#32
  let v304 : BitVec 32 := Scalar.muli arg13 c32_i32
  let c17_i32 : BitVec 32 := 17#32
  let v305 : BitVec 32 := Scalar.muli v304 c17_i32
  let c4_i32_215 : BitVec 32 := 4#32
  let v306 : BitVec 32 := Scalar.muli v305 c4_i32_215
  let v307 : Index := Scalar.indexCast v306
  let c0_216 : Index := 0#32
  ![v307.toNat, 0]
def k0_off14 (k0_t3 : Fin k0_t3_loop.trips) : Fin 3 → Nat :=
  let c0_217 : Index := 0#32
  let c0_i32_200 : BitVec 32 := 0#32
  let c1_i32_202 : BitVec 32 := 1#32
  let arg13 : BitVec 32 := Scf.iv c0_i32_200 c1_i32_202 k0_t3
  let c32_i32 : BitVec 32 := 32#32
  let v304 : BitVec 32 := Scalar.muli arg13 c32_i32
  let v312 : Index := Scalar.indexCast v304
  let c0_218 : Index := 0#32
  ![0, v312.toNat, 0]
def k0_off15 (k0_t3 : Fin k0_t3_loop.trips) : Fin 3 → Nat :=
  let c0_219 : Index := 0#32
  let c0_i32_200 : BitVec 32 := 0#32
  let c1_i32_202 : BitVec 32 := 1#32
  let arg13 : BitVec 32 := Scf.iv c0_i32_200 c1_i32_202 k0_t3
  let c32_i32 : BitVec 32 := 32#32
  let v304 : BitVec 32 := Scalar.muli arg13 c32_i32
  let v318 : Index := Scalar.indexCast v304
  let c128 : Index := 128#32
  ![0, v318.toNat, 128]
def k0_off16 (k0_t3 : Fin k0_t3_loop.trips) : Fin 3 → Nat :=
  let c0_220 : Index := 0#32
  let c0_i32_200 : BitVec 32 := 0#32
  let c1_i32_202 : BitVec 32 := 1#32
  let arg13 : BitVec 32 := Scf.iv c0_i32_200 c1_i32_202 k0_t3
  let c32_i32 : BitVec 32 := 32#32
  let v304 : BitVec 32 := Scalar.muli arg13 c32_i32
  let v324 : Index := Scalar.indexCast v304
  let c256 : Index := 256#32
  ![0, v324.toNat, 256]
def k0_off17 (k0_t3 : Fin k0_t3_loop.trips) : Fin 3 → Nat :=
  let c0_221 : Index := 0#32
  let c0_i32_200 : BitVec 32 := 0#32
  let c1_i32_202 : BitVec 32 := 1#32
  let arg13 : BitVec 32 := Scf.iv c0_i32_200 c1_i32_202 k0_t3
  let c32_i32 : BitVec 32 := 32#32
  let v304 : BitVec 32 := Scalar.muli arg13 c32_i32
  let v330 : Index := Scalar.indexCast v304
  let c384 : Index := 384#32
  ![0, v330.toNat, 384]
def k0_off18 (k0_t3 : Fin k0_t3_loop.trips) : Fin 3 → Nat :=
  let c0_222 : Index := 0#32
  let c0_i32_200 : BitVec 32 := 0#32
  let c1_i32_202 : BitVec 32 := 1#32
  let arg13 : BitVec 32 := Scf.iv c0_i32_200 c1_i32_202 k0_t3
  let c32_i32 : BitVec 32 := 32#32
  let v304 : BitVec 32 := Scalar.muli arg13 c32_i32
  let v336 : Index := Scalar.indexCast v304
  let c512 : Index := 512#32
  ![0, v336.toNat, 512]
def k0_off19 (k0_t3 : Fin k0_t3_loop.trips) : Fin 3 → Nat :=
  let c0_223 : Index := 0#32
  let c0_i32_200 : BitVec 32 := 0#32
  let c1_i32_202 : BitVec 32 := 1#32
  let arg13 : BitVec 32 := Scf.iv c0_i32_200 c1_i32_202 k0_t3
  let c32_i32 : BitVec 32 := 32#32
  let v304 : BitVec 32 := Scalar.muli arg13 c32_i32
  let v342 : Index := Scalar.indexCast v304
  let c640 : Index := 640#32
  ![0, v342.toNat, 640]
def k0_off20 (k0_t3 : Fin k0_t3_loop.trips) : Fin 3 → Nat :=
  let c0_224 : Index := 0#32
  let c0_i32_200 : BitVec 32 := 0#32
  let c1_i32_202 : BitVec 32 := 1#32
  let arg13 : BitVec 32 := Scf.iv c0_i32_200 c1_i32_202 k0_t3
  let c32_i32 : BitVec 32 := 32#32
  let v304 : BitVec 32 := Scalar.muli arg13 c32_i32
  let v348 : Index := Scalar.indexCast v304
  let c768 : Index := 768#32
  ![0, v348.toNat, 768]
def k0_off21 (k0_t3 : Fin k0_t3_loop.trips) : Fin 3 → Nat :=
  let c0_225 : Index := 0#32
  let c0_i32_200 : BitVec 32 := 0#32
  let c1_i32_202 : BitVec 32 := 1#32
  let arg13 : BitVec 32 := Scf.iv c0_i32_200 c1_i32_202 k0_t3
  let c32_i32 : BitVec 32 := 32#32
  let v304 : BitVec 32 := Scalar.muli arg13 c32_i32
  let v354 : Index := Scalar.indexCast v304
  let c896 : Index := 896#32
  ![0, v354.toNat, 896]
@[reducible] def k0_t4_loop : Scf.Loop 32 :=
  let c0_i32_205 : BitVec 32 := 0#32
  let c128_i32_206 : BitVec 32 := 128#32
  let v287 : BitVec 32 := Scalar.addi c0_i32_205 c128_i32_206
  let c1_i32_207 : BitVec 32 := 1#32
  ⟨c0_i32_205, v287, c1_i32_207⟩
def k0_off22 (k0_t4 : Fin k0_t4_loop.trips) (c0_i32_216 : BitVec 32) : Fin 2 → Nat :=
  let c0_i32_205 : BitVec 32 := 0#32
  let c1_i32_207 : BitVec 32 := 1#32
  let arg13 : BitVec 32 := Scf.iv c0_i32_205 c1_i32_207 k0_t4
  let c2_i32 : BitVec 32 := 2#32
  let v304 : BitVec 32 := Scalar.muli arg13 c2_i32
  let c32_i32 : BitVec 32 := 32#32
  let v305 : BitVec 32 := Scalar.muli v304 c32_i32
  let c32_i32_215 : BitVec 32 := 32#32
  let v306 : BitVec 32 := Scalar.addi v305 c32_i32_215
  let v307 : BitVec 32 := Scalar.addi v306 c0_i32_216
  let v309 : Index := Scalar.indexCast v307
  let c0_217 : Index := 0#32
  ![Nat.mul 2 v309.toNat, 0]
def k0_off23 (k0_t4 : Fin k0_t4_loop.trips) (c0_i32_228 : BitVec 32) : Fin 2 → Nat :=
  let c0_i32_205 : BitVec 32 := 0#32
  let c1_i32_207 : BitVec 32 := 1#32
  let arg13 : BitVec 32 := Scf.iv c0_i32_205 c1_i32_207 k0_t4
  let c2_i32_226 : BitVec 32 := 2#32
  let v340 : BitVec 32 := Scalar.muli arg13 c2_i32_226
  let c16_i32 : BitVec 32 := 16#32
  let v341 : BitVec 32 := Scalar.muli v340 c16_i32
  let c16_i32_227 : BitVec 32 := 16#32
  let v342 : BitVec 32 := Scalar.addi v341 c16_i32_227
  let v343 : BitVec 32 := Scalar.addi v342 c0_i32_228
  let c4_i32_229 : BitVec 32 := 4#32
  let v344 : BitVec 32 := Scalar.muli v343 c4_i32_229
  let v345 : Index := Scalar.indexCast v344
  let c0_230 : Index := 0#32
  ![v345.toNat, 0]
def k0_off24 (k0_t4 : Fin k0_t4_loop.trips) (c0_i32_231 : BitVec 32) : Fin 2 → Nat :=
  let c0_i32_205 : BitVec 32 := 0#32
  let c1_i32_207 : BitVec 32 := 1#32
  let arg13 : BitVec 32 := Scf.iv c0_i32_205 c1_i32_207 k0_t4
  let c17_i32 : BitVec 32 := 17#32
  let v347 : BitVec 32 := Scalar.muli arg13 c17_i32
  let v348 : BitVec 32 := Scalar.addi v347 c0_i32_231
  let c4_i32_232 : BitVec 32 := 4#32
  let v349 : BitVec 32 := Scalar.muli v348 c4_i32_232
  let v350 : Index := Scalar.indexCast v349
  let c0_233 : Index := 0#32
  ![v350.toNat, 0]
def k0_cond2 (i : grid0.Coords) : BitVec 1 :=
  let arg0 : BitVec 32 := BitVec.ofNat 32 (i 0).val
  let c128_i32_213 : BitVec 32 := 128#32
  let v301 : BitVec 1 := Scalar.cmpi .eq arg0 c128_i32_213
  let v302 : BitVec 32 := Scalar.extui v301
  let c0_i32_214 : BitVec 32 := 0#32
  let v303 : BitVec 1 := Scalar.cmpi .ne v302 c0_i32_214
  v303

def cc0_transform_0 (i : grid0.Coords) : Fin 2 → Nat :=
  let arg0 : BitVec 32 := BitVec.ofNat 32 (i 0).val
  let c127_i32 : BitVec 32 := 127#32
  let v0 : BitVec 32 := Scalar.minsi arg0 c127_i32
  let c0_i32 : BitVec 32 := 0#32
  let c0_i32_0 : BitVec 32 := 0#32
  ![v0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let c127_i32 : BitVec 32 := 127#32
  let v0 : BitVec 32 := Scalar.minsi arg0 c127_i32
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S16384x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x1024x640 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x640 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S10240x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16384x128 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S16x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== KernelIdeal.lean ====
variable {F : FTy → Type} [FloatOps F]
-- ==== ReferenceIdeal.lean ====
abbrev S4x4096x16x1024 : Shape := ⟨4, ![4, 4096, 16, 1024]⟩
abbrev S16x1024x640 : Shape := ⟨3, ![16, 1024, 640]⟩
abbrev S16x640 : Shape := ⟨2, ![16, 640]⟩
abbrev S16 : Shape := ⟨1, ![16]⟩
abbrev S4x4096x16x640 : Shape := ⟨4, ![4, 4096, 16, 640]⟩
abbrev S1x1x16x1 : Shape := ⟨4, ![1, 1, 16, 1]⟩
abbrev S16x640x4x4096 : Shape := ⟨4, ![16, 640, 4, 4096]⟩
abbrev S16x1 : Shape := ⟨2, ![16, 1]⟩
abbrev S1x1x16x640 : Shape := ⟨4, ![1, 1, 16, 640]⟩

abbrev nBuf : Space → Nat
  | .hbm => 7
  | .vmem => 7
  | .smem => 0
  | _ => 0

abbrev bufTy : (tb : Table) → Fin (tcTables nBuf tb) → BufTy
  | .hbm, ⟨0, _⟩ => ⟨S4x4096x16x1024, .bf16⟩
  | .hbm, ⟨1, _⟩ => ⟨S16x1024x640, .fp8e4m3⟩
  | .hbm, ⟨2, _⟩ => ⟨S16x640, .f32⟩
  | .hbm, ⟨3, _⟩ => ⟨S16, .f32⟩
  | .hbm, ⟨4, _⟩ => ⟨S4x4096x16x640, .bf16⟩
  | .hbm, ⟨5, _⟩ => ⟨S4x4096x16x1024, .fp8e4m3⟩
  | .hbm, ⟨6, _⟩ => ⟨S16, .f32⟩
  | .local _ .vmem, ⟨0, _⟩ => ⟨S4x4096x16x1024, .bf16⟩
  | .local _ .vmem, ⟨1, _⟩ => ⟨S16x1024x640, .fp8e4m3⟩
  | .local _ .vmem, ⟨2, _⟩ => ⟨S16x640, .f32⟩
  | .local _ .vmem, ⟨3, _⟩ => ⟨S16, .f32⟩
  | .local _ .vmem, ⟨4, _⟩ => ⟨S4x4096x16x640, .bf16⟩
  | .local _ .vmem, ⟨5, _⟩ => ⟨S4x4096x16x1024, .fp8e4m3⟩
  | .local _ .vmem, ⟨6, _⟩ => ⟨S16, .f32⟩
  | _, _ => ⟨S4x4096x16x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S4x4096x16x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x1024x640 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x640 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x4096x16x640 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x4096x16x1024 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Kernel.Body.lean ====
/- The kernel's frame: every run of the program ends, nothing faults, and the argument arrays end as they began.
   The body is run once, its buffers at any contents; nothing is said of what it leaves in them. -/
module

public import proofs.«01_k».proof.Proof.Gen.Kernel.Frame
public import proofs.«01_k».proof.Proof.Gen.Kernel.Skeleton
public import proofs.«01_k».proof.Proof.Gen.Kernel.Loops

@[expose] public section

set_option maxRecDepth 16384

noncomputable section

namespace Cert.Kernel.Run

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

set_option maxHeartbeats 4000000 in
/-- The body, from any contents of its buffers: it ends, the four operands as they were, every other buffer at some
    contents. -/
theorem sound_kernel (c : Dev nD) (E : Set ℕ) (i : grid0.Coords) (arg1 : Memref sig .tc .vmem S16384x128 .bf16) (harg1 : arg1.IsWhole) (arg2 : Memref sig .tc .vmem S16x1024x640 .fp8e4m3) (harg2 : arg2.IsWhole) (arg3 : Memref sig .tc .vmem S16x640 .f32) (harg3 : arg3.IsWhole) (arg4 : Memref sig .tc .vmem S16x128 .f32) (harg4 : arg4.IsWhole) (arg5 : Memref sig .tc .vmem S10240x128 .bf16) (harg5 : arg5.IsWhole) (arg6 : Memref sig .tc .vmem S16384x128 .fp8e4m3) (harg6 : arg6.IsWhole) (arg7 : Memref sig .tc .vmem S16x128 .f32) (harg7 : arg7.IsWhole) (arg8 : Memref sig .tc .vmem S8736x128 .fp8e4m3) (harg8 : arg8.IsWhole) (arg9 : Memref sig .tc .vmem S8736x128 .fp8e4m3) (harg9 : arg9.IsWhole) (arg10 : Memref sig .tc .vmem S16x128x1024 .fp8e4m3) (harg10 : arg10.IsWhole) (arg11 : Memref sig .tc .vmem S16x640 .f32) (harg11 : arg11.IsWhole) (arg12 : Memref sig .tc .vmem S16x128 .f32) (harg12 : arg12.IsWhole)
    (x1 : Vec F S16384x128 .bf16) (x2 : Vec F S16x1024x640 .fp8e4m3) (x3 : Vec F S16x640 .f32) (x4 : Vec F S16x128 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4
        ∗ (∃ f, arg5.view.loc (c : Thread nD τ) ↦{fullShare} f) ∗ (∃ d, owns (c : Thread nD τ) arg6 fullShare d) ∗ (∃ d, owns (c : Thread nD τ) arg7 fullShare d)
        ∗ (∃ f, arg8.view.loc (c : Thread nD τ) ↦[arg8.view.set]{fullShare} f) ∗ (∃ f, arg9.view.loc (c : Thread nD τ) ↦[arg9.view.set]{fullShare} f) ∗ (∃ f, arg10.view.loc (c : Thread nD τ) ↦[arg10.view.set]{fullShare} f) ∗ (∃ f, arg11.view.loc (c : Thread nD τ) ↦[arg11.view.set]{fullShare} f) ∗ (∃ f, arg12.view.loc (c : Thread nD τ) ↦[arg12.view.set]{fullShare} f)
        ∗ (iprop(owns (c : Thread nD τ) arg1 fullShare x1 ∗ owns (c : Thread nD τ) arg2 fullShare x2 ∗ owns (c : Thread nD τ) arg3 fullShare x3 ∗ owns (c : Thread nD τ) arg4 fullShare x4
        ∗ (∃ f, arg5.view.loc (c : Thread nD τ) ↦{fullShare} f) ∗ (∃ d, owns (c : Thread nD τ) arg6 fullShare d) ∗ (∃ d, owns (c : Thread nD τ) arg7 fullShare d)
        ∗ (∃ f, arg8.view.loc (c : Thread nD τ) ↦[arg8.view.set]{fullShare} f) ∗ (∃ f, arg9.view.loc (c : Thread nD τ) ↦[arg9.view.set]{fullShare} f) ∗ (∃ f, arg10.view.loc (c : Thread nD τ) ↦[arg10.view.set]{fullShare} f) ∗ (∃ f, arg11.view.loc (c : Thread nD τ) ↦[arg11.view.set]{fullShare} f) ∗ (∃ f, arg12.view.loc (c : Thread nD τ) ↦[arg12.view.set]{fullShare} f)) -∗ K ⟨⟩))
      ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12) K := by
  simp only [cc0__body_eq_skeleton]; unfold cc0__body_skel
  unfold owns
  iintro ⟨⟨%f1, %hf1, H1⟩, ⟨%f2, %hf2, H2⟩, ⟨%f3, %hf3, H3⟩, ⟨%f4, %hf4, H4⟩, ⟨%f5, H5⟩, ⟨%d6, %f6, -, H6⟩, ⟨%d7, %f7, -, H7⟩, ⟨%f8, H8⟩, ⟨%f9, H9⟩, ⟨%f10, H10⟩, ⟨%f11, H11⟩, ⟨%f12, H12⟩, Hk⟩
  subst hf1 hf2 hf3 hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; iexact H5
  isplitl [H6]
  · iexists _; iexists _; isplitr
    swap; · iexact H6
    ipureintro; rfl
  isplitl [H7]
  · iexists _; iexists _; isplitr
    swap; · iexact H7
    ipureintro; rfl
  isplitl [H8]
  · iexists _; iexact H8
  isplitl [H9]
  · iexists _; iexact H9
  isplitl [H10]
  · iexists _; iexact H10
  isplitl [H11]
  · iexists _; iexact H11
  iexists _; iexact H12

end Cert.Kernel.Run

end
-- ==== Proof.Kernel.Run.lean ====
/- The kernel's launch: the frame claim, from the body's triple and the launch theorem that says nothing of the outputs. -/
module

public import proofs.«01_k».proof.Proof.Kernel.Body
public import Idealize.ShloMosaic.Lib.Pipeline.FrameSuffix
public import Idealize.ShloMosaic.Lib.Claim

@[expose] public section

set_option maxRecDepth 16384

noncomputable section

namespace Cert.Kernel.Run

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-- The proof data: the arrays as the region finds them, the operands' blocks left in place, the results' blocks
    not named. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Dat.unnamed (cfg := cfg0) ⟨4, h⟩ t
    | ⟨5, h⟩ => Dat.unnamed (cfg := cfg0) ⟨5, h⟩ t
    | ⟨6, h⟩ => Dat.unnamed (cfg := cfg0) ⟨6, h⟩ t
  Φ _ := Pipeline.ΦA spec0 c
  q _ := fullShare
  owed _ := 0

/-- The windows whose contents are not named: the three results. -/
def forgets : Fin cfg0.W → Bool := fun w => decide (4 ≤ w.val)

/-- Each window's array at the launch. -/
theorem A_eq (c : Dev nD) (w : Fin cfg0.W) : (dats m 0 c).A w = V m c (Pipeline.arrRef spec0 w) := by
  dsimp only [dats]

/-- The activation window holds its block before the body. -/
theorem before0_0 (c : Dev nD) (t : Fin cfg0.N) (d) : (dats m 0 c).before 0 t d = iblk m c 0 t :=
  before0_0_of m (dats m 0 c) (A_eq m c 0) (fun _ => rfl) t d
/-- The weight window holds its block before the body. -/
theorem before0_1 (c : Dev nD) (t : Fin cfg0.N) (d) : (dats m 0 c).before 1 t d = iblk m c 1 t :=
  before0_1_of m (dats m 0 c) (A_eq m c 1) (fun _ => rfl) t d
/-- The weight-scale window holds its block before the body. -/
theorem before0_2 (c : Dev nD) (t : Fin cfg0.N) (d) : (dats m 0 c).before 2 t d = iblk m c 2 t :=
  before0_2_of m (dats m 0 c) (A_eq m c 2) (fun _ => rfl) t d
/-- The scale window holds its block before the body. -/
theorem before0_3 (c : Dev nD) (t : Fin cfg0.N) (d) : (dats m 0 c).before 3 t d = iblk m c 3 t :=
  before0_3_of m (dats m 0 c) (A_eq m c 3) (fun _ => rfl) t d

/-- Before the body at a point: the invariant and each window's current buffer. -/
abbrev bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ X, owns (c : Thread nD τ) (st0_4 t) fullShare X)
    ∗ (∃ X, owns (c : Thread nD τ) (st0_5 t) fullShare X)
    ∗ (∃ X, owns (c : Thread nD τ) (st0_6 t) fullShare X))

/-- After it. -/
abbrev bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (∃ X, owns (c : Thread nD τ) (st0_4 t) fullShare X)
    ∗ (∃ X, owns (c : Thread nD τ) (st0_5 t) fullShare X)
    ∗ (∃ X, owns (c : Thread nD τ) (st0_6 t) fullShare X))

/-- A whole buffer held, as `owns` at some contents. -/
theorem owns_of_whole (c : Dev nD) {s : Shape} {e : EltTy} (M : Memref sig .tc .vmem s e) (h : M.IsWhole) :
    iprop(∃ f, M.view.loc (c : Thread nD τ) ↦{fullShare} f)
      ⊢ (iprop(∃ X : Vec F s e, owns (c : Thread nD τ) M fullShare X) : sProp 𝕄) := by
  iintro ⟨%f, H⟩
  iexists _; unfold owns; iexists f; isplitr
  · ipureintro; rfl
  rw [h.set_eq_univ]; iexact H

/-- `owns` at some contents, as a whole buffer held. -/
theorem whole_of_owns (c : Dev nD) {s : Shape} {e : EltTy} (M : Memref sig .tc .vmem s e) (h : M.IsWhole) :
    (iprop(∃ X : Vec F s e, owns (c : Thread nD τ) M fullShare X) : sProp 𝕄)
      ⊢ iprop(∃ f, M.view.loc (c : Thread nD τ) ↦{fullShare} f) := by
  unfold owns; rw [h.set_eq_univ]
  iintro ⟨%X, %f, -, H⟩
  iexists f; iexact H

/-- The scratch buffers as the body's triple names them. -/
theorem scratch_view (c : Dev nD) (b : Ref sig .tc) :
    (iprop(∃ f : Buf (Elt F) ((c : Thread nD τ).loc b), ((c : Thread nD τ).loc b) ↦{fullShare} f) : sProp 𝕄)
      = iprop(∃ f, (Memref.whole b).view.loc (c : Thread nD τ) ↦[(Memref.whole b).view.set]{fullShare} f) := by
  rw [(Memref.isWhole_whole b).set_eq_univ]

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    show (dats m 0 c).after 0 t = iblk m c 0 t from rfl, show (dats m 0 c).after 1 t = iblk m c 1 t from rfl,
    show (dats m 0 c).after 2 t = iblk m c 2 t from rfl, show (dats m 0 c).after 3 t = iblk m c 3 t from rfl]
  unfold Pipeline.ΦA
  rw [scopedRest0_eq]
  simp only [scratch_view]
  iintro ⟨⟨⟨S0, S1, S2, S3, S4⟩, HR⟩, Ho, ⟨%d0, H0⟩, ⟨%d1, H1⟩, ⟨%d2, H2⟩, ⟨%d3, H3⟩, H4, H5, H6⟩
  iapply (sound_kernel c Set.univ (grid0.coords t) _ _ _ _ _ _ _ _ _ _ _ _ _ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iapply (whole_of_owns c (st0_4 t) (hstage0_4 ((cfg0.slots t 4).cast nbuf0_4))); iexact H4
  isplitl [H5]; · iexact H5
  isplitl [H6]; · iexact H6
  isplitl [S0]; · iexact S0
  isplitl [S1]; · iexact S1
  isplitl [S2]; · iexact S2
  isplitl [S3]; · iexact S3
  isplitl [S4]; · iexact S4
  iintro ⟨H0, H1, H2, H3, H4, H5, H6, S0, S1, S2, S3, S4⟩
  isplitl [S0 S1 S2 S3 S4 HR]
  · isplitl [S0 S1 S2 S3 S4]
    · isplitl [S0]; · iexact S0
      isplitl [S1]; · iexact S1
      isplitl [S2]; · iexact S2
      isplitl [S3]; · iexact S3
      iexact S4
    · iexact HR
  isplitl [Ho]; · iexact Ho
  isplitl [H0]; · iexact H0
  isplitl [H1]; · iexact H1
  isplitl [H2]; · iexact H2
  isplitl [H3]; · iexact H3
  isplitl [H4]; · iapply (owns_of_whole c (st0_4 t) (hstage0_4 ((cfg0.slots t 4).cast nbuf0_4))); iexact H4
  isplitl [H5]; · iexact H5
  iexact H6

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The body obligation at every point, the results' windows not named. -/
theorem body_obligation (c : Dev nD) : BodyObligation (dats (F := F) m 0 c) (defs₀ (F := F)) Variants.none () Set.univ forgets := fun t => by
  rw [bigSep_W0, bigSep_W0, defs₀_row]
  exact triple_restated (sound_body m c t) rfl .rfl fun _ => .rfl

/-- What the lines after the region write. -/
def lateRefs : Finset (Ref sig .tc) := {main_v6, main_v7, main_v8, main_v9, main_v10, main_v11, main_v12, main_v13}

/-- The host operations after the launch write no argument and no array of the launch. -/
theorem late_writes : ∀ ops ∈ ([hostOps1] : List (List (HloOp τ sig (Elt F)))), ∀ op ∈ ops, ∀ b : Ref sig .tc,
    Proc.devRef .tc b ∈ op.writes → b ∈ lateRefs := by
  intro ops hops op hop b hb
  simp only [List.mem_cons, List.mem_nil_iff, or_false] at hops
  rcases hops with rfl
  simp only [hostOps1, List.mem_cons, List.mem_nil_iff, or_false] at hop
  rcases hop with rfl | rfl | rfl | rfl | rfl | rfl | rfl | rfl
  all_goals
    simp only [StableHlo.nullary_writes, StableHlo.unary_writes, StableHlo.binary_writes, StableHlo.reshape_writes, Finset.mem_singleton] at hb
    rw [Proc.devRef_injective _ hb]; decide

set_option backward.isDefEq.respectTransparency.types false in
set_option maxHeartbeats 800000 in
/-- The launch, with every semaphore counter at zero in the end. -/
theorem run_main : θ_run defs (onTc (τ := τ) (main (F := F))) (s₀ m ρ)
    (fun r => Pipeline.RDat.FramePostR cfg0 (fun c => (dats m 0 c).toRForget forgets) lateRefs (V m) r ∧ r.2.sem = fun _ => 0) :=
  Pipeline.θ_run_frame_around_T_forget (Q' := _) cfgs (dats m) (0 : Fin 1) launch0 defs₀ Variants.none forgets lateRefs m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hT := late_writes) (hmain := hmain m Variants.none) (hA := A_eq m) (hΦ := fun _ _ => rfl)

/-- The kernel terminates without a fault, its argument arrays are as they were, and every semaphore counter is zero. -/
theorem frame_claim : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
    ⟨((h.1 c).2 main_arg0 (Finset.mem_sdiff.mpr ⟨Pipeline.mem_restRefs_of main_arg0 (by decide) (by decide), by decide⟩)).trans (V_main_arg0 m c),
      (((Pipeline.Dat.toRForget_arrAt_iff (dats m 0 c) (fgt := forgets) (w := 1) rfl _ _).mp ((h.1 c).1 1)).trans ((dats m 0 c).arrAt_in 1 rfl _)).trans (V_main_arg1 m c),
      (((Pipeline.Dat.toRForget_arrAt_iff (dats m 0 c) (fgt := forgets) (w := 2) rfl _ _).mp ((h.1 c).1 2)).trans ((dats m 0 c).arrAt_in 2 rfl _)).trans (V_main_arg2 m c),
      ((h.1 c).2 main_arg3 (Finset.mem_sdiff.mpr ⟨Pipeline.mem_restRefs_of main_arg3 (by decide) (by decide), by decide⟩)).trans (V_main_arg3 m c)⟩, h.2⟩) (run_main m ρ)

end Cert.Kernel.Run

end
-- ==== Proof.PI.Pure.lean ====
/- Arrays read at natural-number coordinates, and what each vector the kernel computes is at an index. -/
module

public import proofs.«01_k».proof.Proof.Gen.KernelIdeal.Skeleton
public import proofs.«01_k».proof.Proof.Gen.KernelIdeal.Loops
public import Idealize.ShloMosaic.Lib.Pipeline.ValueKit
public import Idealize.ShloMosaic.Lib.Bf16Pair

@[expose] public section

set_option maxRecDepth 16384

noncomputable section

namespace Cert.KernelIdeal.Val

open Cert.KernelIdeal.Gen
open Idealize.ShloMosaic Idealize.ShloMosaic.TcCoe Idealize.ShloMosaic.Tactic

variable {α : Type} [Zero α]

/-- A two-axis array at row `r`, column `l`; zero outside. -/
def at2 {n m : ℕ} (X : (⟨2, ![n, m]⟩ : Shape).Idx → α) (r l : ℕ) : α :=
  if h : r < n ∧ l < m then X (fun | ⟨0, _⟩ => ⟨r, h.1⟩ | ⟨1, _⟩ => ⟨l, h.2⟩) else 0

/-- A three-axis array at `(a, b, c)`; zero outside. -/
def at3 {n m p : ℕ} (X : (⟨3, ![n, m, p]⟩ : Shape).Idx → α) (a b c : ℕ) : α :=
  if h : a < n ∧ b < m ∧ c < p then X (fun | ⟨0, _⟩ => ⟨a, h.1⟩ | ⟨1, _⟩ => ⟨b, h.2.1⟩ | ⟨2, _⟩ => ⟨c, h.2.2⟩) else 0

/-- An element is the array at its coordinates. -/
theorem at2_of {n m : ℕ} (X : (⟨2, ![n, m]⟩ : Shape).Idx → α) (y : (⟨2, ![n, m]⟩ : Shape).Idx) {r l : ℕ}
    (hr : (y 0).val = r) (hl : (y 1).val = l) : X y = at2 X r l := by
  subst hr hl
  unfold at2
  rw [dif_pos ⟨(y 0).isLt, (y 1).isLt⟩]
  exact congrArg X (funext fun a => by match a with | ⟨0, _⟩ => rfl | ⟨1, _⟩ => rfl)

/-- A rank-three array at an index, by its coordinates. -/
theorem at3_of {n m p : ℕ} (X : (⟨3, ![n, m, p]⟩ : Shape).Idx → α) (y : (⟨3, ![n, m, p]⟩ : Shape).Idx) {a b c : ℕ}
    (ha : (y 0).val = a) (hb : (y 1).val = b) (hc : (y 2).val = c) : X y = at3 X a b c := by
  subst ha hb hc
  unfold at3
  rw [dif_pos ⟨(y 0).isLt, (y 1).isLt, (y 2).isLt⟩]
  exact congrArg X (funext fun a => by match a with | ⟨0, _⟩ => rfl | ⟨1, _⟩ => rfl | ⟨2, _⟩ => rfl)

/-- The array at coordinates inside it is an element. -/
theorem at2_mk {n m : ℕ} (X : (⟨2, ![n, m]⟩ : Shape).Idx → α) {r l : ℕ} (hr : r < n) (hl : l < m) :
    at2 X r l = X (fun | ⟨0, _⟩ => ⟨r, hr⟩ | ⟨1, _⟩ => ⟨l, hl⟩) := by
  unfold at2; rw [dif_pos ⟨hr, hl⟩]

/-- A read of a rank-three array inside its bounds. -/
theorem at3_mk {n m p : ℕ} (X : (⟨3, ![n, m, p]⟩ : Shape).Idx → α) {a b c : ℕ} (ha : a < n) (hb : b < m) (hc : c < p) :
    at3 X a b c = X (fun | ⟨0, _⟩ => ⟨a, ha⟩ | ⟨1, _⟩ => ⟨b, hb⟩ | ⟨2, _⟩ => ⟨c, hc⟩) := by
  unfold at3; rw [dif_pos ⟨ha, hb, hc⟩]

/-- Outside it, zero. -/
theorem at2_out {n m : ℕ} (X : (⟨2, ![n, m]⟩ : Shape).Idx → α) {r l : ℕ} (h : ¬(r < n ∧ l < m)) : at2 X r l = 0 := by
  unfold at2; rw [dif_neg h]

/-- A read of a rank-three array outside its bounds is zero. -/
theorem at3_out {n m p : ℕ} (X : (⟨3, ![n, m, p]⟩ : Shape).Idx → α) {a b c : ℕ} (h : ¬(a < n ∧ b < m ∧ c < p)) : at3 X a b c = 0 := by
  unfold at3; rw [dif_neg h]

/-- The quantiser: scaled by the reciprocal scale `v`, clipped to ±448. -/
def qz (x v : EReal) : EReal :=
  min (Scalar.ofBits (F := Ideal) .f32 0x43E00000#32) (max (Scalar.ofBits (F := Ideal) .f32 0xC3E00000#32) (x * v))

/-! ## Stores and loads through a buffer -/

section Memory
variable {sp : Space} {e : EltTy} [Zero (Elt Ideal e)]

/-- What a buffer of two axes holds after a rectangle was stored last: the stored vector inside it, what was there
    before outside. -/
theorem at2_writes_cons {n m n' m' : ℕ}
    (M : Memref sig .tc sp ⟨2, ![n, m]⟩ e) (f : BufTy.Contents (Elt Ideal) M.view.ty)
    (off : Fin 2 → ℕ) (o0 o1 : ℕ) (ho : off = ![o0, o1]) (h) (w : (⟨2, ![n', m']⟩ : Shape).Idx → Elt Ideal e)
    (L : List (View.Piece (Elt Ideal) ⟨2, ![n, m]⟩ e)) (r l : ℕ) :
    at2 (M.view.read (Elt Ideal) (M.view.writes (Elt Ideal) f
        (⟨Rect.unit (s := ⟨2, ![n, m]⟩) off ![n', m'] h, w⟩ :: L))) r l
      = if o0 ≤ r ∧ r < o0 + n' ∧ o1 ≤ l ∧ l < o1 + m' then at2 w (r - o0) (l - o1)
        else at2 (M.view.read (Elt Ideal) (M.view.writes (Elt Ideal) f L)) r l := by
  subst ho
  have h0 : o0 + n' ≤ n := h 0
  have h1 : o1 + m' ≤ m := h 1
  split_ifs with hin
  · have a0 : r - o0 < n' := by omega
    have a1 : l - o1 < m' := by omega
    rw [at2_mk _ (by omega) (by omega), at2_mk _ a0 a1]
    have key := View.read_writes_cons_emb (v := M.view) (f := f) (Rect.unit (s := ⟨2, ![n, m]⟩) ![o0, o1] ![n', m'] h) w L
      (fun | ⟨0, _⟩ => ⟨r - o0, a0⟩ | ⟨1, _⟩ => ⟨l - o1, a1⟩)
    refine Eq.trans (congrArg _ ?_) (key.trans (congrArg w (funext fun x => by match x with | ⟨0, _⟩ => rfl | ⟨1, _⟩ => rfl)))
    refine funext fun a => Fin.ext ?_
    match a with
    | ⟨0, _⟩ => show r = o0 + 1 * (r - o0); omega
    | ⟨1, _⟩ => show l = o1 + 1 * (l - o1); omega
  · unfold at2
    split_ifs with hb
    · rw [View.writes_cons, View.read_slice_write_of_not_mem _ _ _ _ (by
        rw [Rect.map_emb_univ, Rect.mem_set_unit]
        intro hm
        have e0 := hm 0
        have e1 := hm 1
        change o0 ≤ r ∧ r < o0 + n' at e0
        change o1 ≤ l ∧ l < o1 + m' at e1
        omega)]
    · rfl

/-- The same with three axes. -/
theorem at3_writes_cons {n m p n' m' p' : ℕ}
    (M : Memref sig .tc sp ⟨3, ![n, m, p]⟩ e) (f : BufTy.Contents (Elt Ideal) M.view.ty)
    (off : Fin 3 → ℕ) (o0 o1 o2 : ℕ) (ho : off = ![o0, o1, o2]) (h) (w : (⟨3, ![n', m', p']⟩ : Shape).Idx → Elt Ideal e)
    (L : List (View.Piece (Elt Ideal) ⟨3, ![n, m, p]⟩ e)) (a b c : ℕ) :
    at3 (M.view.read (Elt Ideal) (M.view.writes (Elt Ideal) f
        (⟨Rect.unit (s := ⟨3, ![n, m, p]⟩) off ![n', m', p'] h, w⟩ :: L))) a b c
      = if o0 ≤ a ∧ a < o0 + n' ∧ o1 ≤ b ∧ b < o1 + m' ∧ o2 ≤ c ∧ c < o2 + p' then at3 w (a - o0) (b - o1) (c - o2)
        else at3 (M.view.read (Elt Ideal) (M.view.writes (Elt Ideal) f L)) a b c := by
  subst ho
  have h0 : o0 + n' ≤ n := h 0
  have h1 : o1 + m' ≤ m := h 1
  have h2 : o2 + p' ≤ p := h 2
  split_ifs with hin
  · have a0 : a - o0 < n' := by omega
    have a1 : b - o1 < m' := by omega
    have a2 : c - o2 < p' := by omega
    rw [at3_mk _ (by omega) (by omega) (by omega), at3_mk _ a0 a1 a2]
    have key := View.read_writes_cons_emb (v := M.view) (f := f) (Rect.unit (s := ⟨3, ![n, m, p]⟩) ![o0, o1, o2] ![n', m', p'] h) w L
      (fun | ⟨0, _⟩ => ⟨a - o0, a0⟩ | ⟨1, _⟩ => ⟨b - o1, a1⟩ | ⟨2, _⟩ => ⟨c - o2, a2⟩)
    refine Eq.trans (congrArg _ ?_) (key.trans (congrArg w (funext fun x => by
      match x with | ⟨0, _⟩ => rfl | ⟨1, _⟩ => rfl | ⟨2, _⟩ => rfl)))
    refine funext fun x => Fin.ext ?_
    match x with
    | ⟨0, _⟩ => show a = o0 + 1 * (a - o0); omega
    | ⟨1, _⟩ => show b = o1 + 1 * (b - o1); omega
    | ⟨2, _⟩ => show c = o2 + 1 * (c - o2); omega
  · unfold at3
    split_ifs with hb
    · rw [View.writes_cons, View.read_slice_write_of_not_mem _ _ _ _ (by
        rw [Rect.map_emb_univ, Rect.mem_set_unit]
        intro hm
        have e0 := hm 0
        have e1 := hm 1
        have e2 := hm 2
        change o0 ≤ a ∧ a < o0 + n' at e0
        change o1 ≤ b ∧ b < o1 + m' at e1
        change o2 ≤ c ∧ c < o2 + p' at e2
        omega)]
    · rfl

/-- A rectangle loaded from a buffer of two axes, at an index. -/
theorem at2_load {n m n' m' : ℕ} (M : Memref sig .tc sp ⟨2, ![n, m]⟩ e) (f : BufTy.Contents (Elt Ideal) M.view.ty)
    (off : Fin 2 → ℕ) (o0 o1 : ℕ) (ho : off = ![o0, o1]) (h) {r l : ℕ} (hr : r < n') (hl : l < m') :
    at2 (n := n') (m := m') (M.view.readAt (Elt Ideal) (Rect.unit (s := ⟨2, ![n, m]⟩) off ![n', m'] h).toLoadRect f) r l
      = at2 (M.view.read (Elt Ideal) f) (o0 + r) (o1 + l) := by
  subst ho
  rw [at2_mk _ hr hl, View.readAt_apply]
  exact at2_of _ _ (show o0 + 1 * r = o0 + r by omega) (show o1 + 1 * l = o1 + l by omega)

/-- The same with three axes. -/
theorem at3_load {n m p n' m' p' : ℕ} (M : Memref sig .tc sp ⟨3, ![n, m, p]⟩ e) (f : BufTy.Contents (Elt Ideal) M.view.ty)
    (off : Fin 3 → ℕ) (o0 o1 o2 : ℕ) (ho : off = ![o0, o1, o2]) (h) {a b c : ℕ} (ha : a < n') (hb : b < m') (hc : c < p') :
    at3 (n := n') (m := m') (p := p') (M.view.readAt (Elt Ideal) (Rect.unit (s := ⟨3, ![n, m, p]⟩) off ![n', m', p'] h).toLoadRect f) a b c
      = at3 (M.view.read (Elt Ideal) f) (o0 + a) (o1 + b) (o2 + c) := by
  subst ho
  rw [at3_mk _ ha hb hc, View.readAt_apply]
  exact at3_of _ _ (show o0 + 1 * a = o0 + a by omega) (show o1 + 1 * b = o1 + b by omega) (show o2 + 1 * c = o2 + c by omega)

end Memory

/-! ## Moves of data -/

/-- A shape cast to the same shape changes nothing. -/
theorem cast_id {s : Shape} (X : s.Idx → α) (h : s.ShapeCasts s) : shapeCast s X h = X := shapeCast_self X h

/-- Rows in groups of `m`: row `b` of group `a` is row `m a + b`. -/
theorem at3_split {n m p N : ℕ} (X : (⟨2, ![N, p]⟩ : Shape).Idx → α) (h) {a b c : ℕ} (ha : a < n) (hb : b < m) (hc : c < p) :
    at3 (shapeCast ⟨3, ![n, m, p]⟩ X h) a b c = at2 X (m * a + b) c := by
  have hN : N * p = n * m * p := by
    have := h.symm
    simpa [Shape.numel, Fin.prod_univ_succ, mul_assoc] using (show _ = _ from h).symm
  have hp : 0 < p := by omega
  have hN' : N = n * m := Nat.eq_of_mul_eq_mul_right hp hN
  have hr : m * a + b < N := by
    rw [hN']; calc m * a + b < m * a + m := by omega
      _ = m * (a + 1) := by ring
      _ ≤ m * n := Nat.mul_le_mul_left _ ha
      _ = n * m := by ring
  rw [at3_mk _ ha hb hc, at2_mk _ hr hc]
  refine shapeCast_apply _ _ _ _ ?_
  rw [Shape.rowMajor_val_two, Shape.rowMajor_val_three]
  show (m * a + b) * p + c = (a * m + b) * p + c
  ring

/-- Slab `o … o+m'` of the middle axis, the two leading axes exchanged. -/
theorem at3_slab {n m m' p : ℕ} (o : ℕ) (X : (⟨3, ![n, m, p]⟩ : Shape).Idx → α) (h1) (h2) {a b c : ℕ} (ha : a < m') (hb : b < n) (hc : c < p) :
    at3 (transpose ⟨3, ![m', n, p]⟩ [1, 0, 2] (extractStridedSlice ⟨3, ![n, m', p]⟩ ![0, o, 0] X h1) h2) a b c = at3 X b (o + a) c := by
  rw [at3_mk _ ha hb hc]
  refine at3_of X _ ?_ ?_ ?_
  · show 0 + b = b; omega
  · rfl
  · show 0 + c = c; omega

/-! ## One trip of the loop that lays the codes out by head -/

/-- Eight rows of each of a block's 32 tokens, as the tile of eight heads the projection reads: rows `o … o+8` of each
    group of 68. -/
abbrev slab (o : ℕ) (h1 : S32x68x128.Slices ![0, o, 0] S32x8x128) (v : FVec Ideal S2176x128 .fp8e4m3) : FVec Ideal S8x32x128 .fp8e4m3 :=
  shapeCast S8x32x128 (transpose S8x32x128 [1, 0, 2] (extractStridedSlice S32x8x128 ![0, o, 0]
    (shapeCast S32x68x128 v shapeCasts_S2176x128_S32x68x128) h1) transposes_S32x8x128_p1_0_2_S8x32x128) shapeCasts_S8x32x128_S8x32x128

/-- Eight rows of each token of a block, heads first, read at an index. -/
theorem slab_at (o : ℕ) (h1) (v : FVec Ideal S2176x128 .fp8e4m3) {a b c : ℕ} (ha : a < 8) (hb : b < 32) (hc : c < 128) (ho : o + a < 68) :
    at3 (slab o h1 v) a b c = at2 v (68 * b + (o + a)) c := by
  unfold slab
  rw [cast_id, at3_slab o _ h1 _ ha hb hc]
  exact at3_split _ _ hb ho hc

/-- What one trip leaves in the buffer of codes by head: for the 32 tokens of block `k` and the eight heads from `H`, the
    codes of the scratch rows; elsewhere what was there. -/
theorem split_writes {sp : Space} (M : Memref sig .tc sp S16x128x1024 .fp8e4m3) (f : BufTy.Contents (Elt Ideal) M.view.ty)
    (v : FVec Ideal S2176x128 .fp8e4m3) (H k : ℕ)
    (f0 f1 f2 f3 f4 f5 f6 f7 : Fin 3 → ℕ) (e0 : f0 = ![H, 32 * k, 0]) (e1 : f1 = ![H, 32 * k, 128]) (e2 : f2 = ![H, 32 * k, 256])
    (e3 : f3 = ![H, 32 * k, 384]) (e4 : f4 = ![H, 32 * k, 512]) (e5 : f5 = ![H, 32 * k, 640]) (e6 : f6 = ![H, 32 * k, 768])
    (e7 : f7 = ![H, 32 * k, 896]) (b0 b1 b2 b3 b4 b5 b6 b7) (h0 h1 h2 h3 h4 h5 h6 h7) (a b q : ℕ) :
    at3 (M.view.read (Elt Ideal) (M.view.writes (Elt Ideal) f
        [⟨Rect.unit (s := S16x128x1024) f7 S8x32x128.size b7, slab 56 h7 v⟩, ⟨Rect.unit (s := S16x128x1024) f6 S8x32x128.size b6, slab 48 h6 v⟩,
          ⟨Rect.unit (s := S16x128x1024) f5 S8x32x128.size b5, slab 40 h5 v⟩, ⟨Rect.unit (s := S16x128x1024) f4 S8x32x128.size b4, slab 32 h4 v⟩,
          ⟨Rect.unit (s := S16x128x1024) f3 S8x32x128.size b3, slab 24 h3 v⟩, ⟨Rect.unit (s := S16x128x1024) f2 S8x32x128.size b2, slab 16 h2 v⟩,
          ⟨Rect.unit (s := S16x128x1024) f1 S8x32x128.size b1, slab 8 h1 v⟩, ⟨Rect.unit (s := S16x128x1024) f0 S8x32x128.size b0, slab 0 h0 v⟩])) a b q
      = if H ≤ a ∧ a < H + 8 ∧ 32 * k ≤ b ∧ b < 32 * k + 32 ∧ q < 1024 then
          at2 v (68 * (b - 32 * k) + (8 * (q / 128) + (a - H))) (q % 128)
        else at3 (M.view.read (Elt Ideal) f) a b q := by
  rw [at3_writes_cons M f f7 _ _ _ e7, at3_writes_cons M f f6 _ _ _ e6, at3_writes_cons M f f5 _ _ _ e5, at3_writes_cons M f f4 _ _ _ e4,
    at3_writes_cons M f f3 _ _ _ e3, at3_writes_cons M f f2 _ _ _ e2, at3_writes_cons M f f1 _ _ _ e1, at3_writes_cons M f f0 _ _ _ e0]
  by_cases hP : H ≤ a ∧ a < H + 8 ∧ 32 * k ≤ b ∧ b < 32 * k + 32 ∧ q < 1024
  · rw [if_pos hP]
    obtain ⟨ha, ha', hb, hb', hq⟩ := hP
    split_ifs
    all_goals first
      | (rw [slab_at _ _ _ (by omega) (by omega) (by omega) (by omega)]; exact congrArg₂ _ (by omega) (by omega))
      | (exfalso; omega)
  · rw [if_neg hP]
    split_ifs
    all_goals first
      | rfl
      | (exfalso; omega)

/-! ## One trip of the loop that quantises -/

/-- The quantiser on 16 rows: the row scaled by its reciprocal scale, clipped. -/
abbrev clipped (v x : FVec Ideal S16x128 .f32) : FVec Ideal S16x128 .f32 :=
  minimumf (broadcast S16x128 (Scalar.ofBits .f32 0x43E00000#32)) (maximumf (broadcast S16x128 (Scalar.ofBits .f32 0xC3E00000#32)) (mulf x v))

/-- Thirty-two rows of codes, of two groups of 16 rows. -/
abbrev codes (v x0 x1 : FVec Ideal S16x128 .f32) : FVec Ideal S32x128 .fp8e4m3 :=
  truncf .fp8e4m3 (concatenate S32x128 0 [⟨S16x128, clipped v x0⟩, ⟨S16x128, clipped v x1⟩] concatenates_S16x128_S16x128_S32x128_d0) bitsLt_fp8e4m3_f32

/-- The clipped product of a tile, read at an index. -/
theorem clipped_at (v x : FVec Ideal S16x128 .f32) {r l : ℕ} (hr : r < 16) (hl : l < 128) :
    at2 (clipped v x) r l = qz (at2 x r l) (at2 v r l) := by
  rw [at2_mk _ hr hl, at2_mk x hr hl, at2_mk v hr hl]; rfl

/-- The codes of two tiles one above the other, read at an index. -/
theorem codes_at (v x0 x1 : FVec Ideal S16x128 .f32) {r l : ℕ} (hr : r < 32) (hl : l < 128) :
    at2 (codes v x0 x1) r l
      = if r < 16 then qz (at2 x0 r l) (at2 v r l) else qz (at2 x1 (r - 16) l) (at2 v (r - 16) l) := by
  have e : at2 (codes v x0 x1) r l = if r < 16 then at2 (clipped v x0) r l else at2 (clipped v x1) (r - 16) l := by
    rw [at2_mk _ hr hl]
    unfold codes
    refine (truncf_apply ..).trans ?_
    refine (concatenate_pair_apply (α := EReal) (0 : Fin S32x128.rank) (clipped v x0) (clipped v x1)
      concatenates_S16x128_S16x128_S32x128_d0 _).trans ?_
    split_ifs with h1 h2 h2
    · exact at2_of (clipped v x0) _ rfl rfl
    · exact absurd h1 h2
    · exact absurd h2 h1
    · exact at2_of (clipped v x1) _ rfl rfl
  rw [e]
  split_ifs with h
  · exact clipped_at v x0 h hl
  · exact clipped_at v x1 (by omega) hl

/-- The absolute value. -/
def ab (x : EReal) : EReal := max x (-x)

/-- The codes of 32 rows loaded 16 by 16 from a buffer, the rows' reciprocal scales repeating every 16 rows. -/
theorem codes_load {sp : Space} (M : Memref sig .tc sp S16384x128 .bf16) (X : BufTy.Contents (Elt Ideal) M.view.ty) (v : FVec Ideal S16x128 .f32)
    (f0 f1 : Fin 2 → ℕ) (o : ℕ) (e0 : f0 = ![o, 0]) (e1 : f1 = ![o + 16, 0]) (b0 b1) {r l : ℕ} (hr : r < 32) (hl : l < 128) :
    at2 (codes v (M.view.readAt (Elt Ideal) (Rect.unit (s := S16384x128) f0 S16x128.size b0).toLoadRect X)
        (M.view.readAt (Elt Ideal) (Rect.unit (s := S16384x128) f1 S16x128.size b1).toLoadRect X)) r l
      = qz (at2 (M.view.read (Elt Ideal) X) (o + r) l) (at2 v (r % 16) l) := by
  rw [codes_at v _ _ hr hl]
  split_ifs with h
  · rw [Nat.mod_eq_of_lt h]
    refine congrArg (qz · _) ((at2_load M X f0 o 0 e0 b0 h hl).trans ?_)
    rw [Nat.zero_add]
  · rw [show r % 16 = r - 16 by omega]
    refine congrArg (qz · _) ((at2_load M X f1 (o + 16) 0 e1 b1 (show r - 16 < 16 by omega) hl).trans ?_)
    rw [Nat.zero_add, show o + 16 + (r - 16) = o + r by omega]

/-- What a trip's two stores of 32 rows leave, from row `B` on: the codes of the 64 rows from row `o` of the block. -/
theorem codes_writes {sp : Space} {N : ℕ} (M : Memref sig .tc .vmem S16384x128 .bf16) (X : BufTy.Contents (Elt Ideal) M.view.ty) (v : FVec Ideal S16x128 .f32)
    (K : Memref sig .tc sp ⟨2, ![N, 128]⟩ .fp8e4m3) (G : BufTy.Contents (Elt Ideal) K.view.ty)
    (f0 f1 f2 f3 : Fin 2 → ℕ) (o : ℕ) (e0 : f0 = ![o, 0]) (e1 : f1 = ![o + 16, 0]) (e2 : f2 = ![o + 32, 0]) (e3 : f3 = ![o + 48, 0])
    (b0 b1 b2 b3) (g0 g1 : Fin 2 → ℕ) (B : ℕ) (d0 : g0 = ![B, 0]) (d1 : g1 = ![B + 32, 0]) (a0 a1)
    (w0 w1 : FVec Ideal S32x128 .fp8e4m3)
    (hw0 : w0 = codes v (M.view.readAt (Elt Ideal) (Rect.unit (s := S16384x128) f0 S16x128.size b0).toLoadRect X)
        (M.view.readAt (Elt Ideal) (Rect.unit (s := S16384x128) f1 S16x128.size b1).toLoadRect X))
    (hw1 : w1 = codes v (M.view.readAt (Elt Ideal) (Rect.unit (s := S16384x128) f2 S16x128.size b2).toLoadRect X)
        (M.view.readAt (Elt Ideal) (Rect.unit (s := S16384x128) f3 S16x128.size b3).toLoadRect X)) (r l : ℕ) :
    at2 (K.view.read (Elt Ideal) (K.view.writes (Elt Ideal) G
        [⟨Rect.unit (s := ⟨2, ![N, 128]⟩) g1 S32x128.size a1, w1⟩, ⟨Rect.unit (s := ⟨2, ![N, 128]⟩) g0 S32x128.size a0, w0⟩])) r l
      = if B ≤ r ∧ r < B + 64 ∧ l < 128 then qz (at2 (M.view.read (Elt Ideal) X) (o + (r - B)) l) (at2 v ((r - B) % 16) l)
        else at2 (K.view.read (Elt Ideal) G) r l := by
  rw [at2_writes_cons K G g1 _ _ d1, at2_writes_cons K G g0 _ _ d0]
  by_cases hP : B ≤ r ∧ r < B + 64 ∧ l < 128
  · rw [if_pos hP]
    obtain ⟨h1, h2, h3⟩ := hP
    split_ifs
    · rw [hw1, codes_load M X v f2 f3 (o + 32) e2 e3 b2 b3 (by omega) (by omega), show l - 0 = l by omega,
        show o + 32 + (r - (B + 32)) = o + (r - B) by omega, show (r - (B + 32)) % 16 = (r - B) % 16 by omega]
    · rw [hw0, codes_load M X v f0 f1 o e0 e1 b0 b1 (by omega) (by omega), show l - 0 = l by omega]
    · exfalso; omega
  · rw [if_neg hP]
    split_ifs
    all_goals first
      | rfl
      | (exfalso; omega)

/-- A carried maximum after one more row of 16 was met. -/
theorem max_load {sp : Space} (M : Memref sig .tc sp S16384x128 .bf16) (X : BufTy.Contents (Elt Ideal) M.view.ty) (a w : FVec Ideal S16x128 .bf16)
    (f0 : Fin 2 → ℕ) (o : ℕ) (e0 : f0 = ![o, 0]) (b0)
    (hw : w = maximumf a (absf (M.view.readAt (Elt Ideal) (Rect.unit (s := S16384x128) f0 S16x128.size b0).toLoadRect X : FVec Ideal S16x128 .bf16)))
    {r l : ℕ} (hr : r < 16) (hl : l < 128) :
    at2 w r l = max (at2 a r l) (ab (at2 (M.view.read (Elt Ideal) X) (o + r) l)) := by
  have e : at2 w r l
      = max (at2 a r l) (ab (at2 (n := 16) (m := 128) (M.view.readAt (Elt Ideal) (Rect.unit (s := S16384x128) f0 S16x128.size b0).toLoadRect X) r l)) := by
    rw [hw, at2_mk _ hr hl, at2_mk a hr hl, at2_mk _ hr hl]; rfl
  rw [e]
  refine congrArg (fun z => max (at2 a r l) (ab z)) ((at2_load M X f0 o 0 e0 b0 hr hl).trans ?_)
  rw [Nat.zero_add]

/-! ## What the loops leave, trip by trip -/

/-- A buffer's contents before the first trip, nothing after: an equation of two of these fixes what the buffer held when a
    loop was entered. -/
def atEntry {β : Type} : ℕ → β → Option β
  | 0, G => some G
  | _ + 1, _ => none

/-- After `k` trips, a buffer that held `G` holds `f`: rows `w … w+64` of each of the first `k` groups of `P` rows are the codes of
    rows `o … o+64` of the same token of the block `X`. -/
def CodesUpTo (X v : ℕ → ℕ → EReal) (o P w k : ℕ) (G f : ℕ → ℕ → EReal) : Prop :=
  ∀ r l, f r l = if r / P < k ∧ w ≤ r % P ∧ r % P < w + 64 ∧ l < 128 then
    qz (X (128 * (r / P) + o + (r % P - w)) l) (v ((r % P - w) % 16) l) else G r l

/-- Before the first trip no codes are stored. -/
@[refl] theorem codesUpTo_zero (X v : ℕ → ℕ → EReal) (o P w : ℕ) (G : ℕ → ℕ → EReal) : CodesUpTo X v o P w 0 G G := by
  intro r l; rw [if_neg (fun h => Nat.not_lt_zero _ h.1)]

/-- One more token of codes stored. -/
theorem CodesUpTo.succ {X v : ℕ → ℕ → EReal} {o P w k : ℕ} {G f f' : ℕ → ℕ → EReal} (h : CodesUpTo X v o P w k G f)
    (hP : P = 128 ∨ P = 68) (hw : w + 64 ≤ P)
    (h' : ∀ r l, f' r l = if P * k + w ≤ r ∧ r < P * k + w + 64 ∧ l < 128 then
      qz (X (128 * k + o + (r - (P * k + w))) l) (v ((r - (P * k + w)) % 16) l) else f r l) :
    CodesUpTo X v o P w (k + 1) G f' := by
  intro r l
  rw [h' r l, h r l]
  by_cases hk : r / P = k ∧ w ≤ r % P ∧ r % P < w + 64 ∧ l < 128
  · obtain ⟨h1, h2, h3, h4⟩ := hk
    have e : r - (P * k + w) = r % P - w := by rcases hP with rfl | rfl <;> omega
    rw [if_pos (by rcases hP with rfl | rfl <;> omega), if_pos ⟨by omega, h2, h3, h4⟩, e, h1]
  · rw [if_neg (by rcases hP with rfl | rfl <;> omega)]
    by_cases hk' : r / P < k ∧ w ≤ r % P ∧ r % P < w + 64 ∧ l < 128
    · rw [if_pos hk', if_pos ⟨by omega, hk'.2⟩]
    · rw [if_neg hk', if_neg (by omega)]

/-- After `k` trips, a carried maximum that was `G`: over the rows `o … o+16` of the first `k` tokens of the block `X`. -/
def MaxUpTo (X : ℕ → ℕ → EReal) (o k : ℕ) (G a : ℕ → ℕ → EReal) : Prop :=
  ∀ r l, r < 16 → l < 128 → ∀ z, a r l ≤ z ↔ G r l ≤ z ∧ ∀ t, t < k → ab (X (128 * t + o + r) l) ≤ z

/-- Before the first trip a carried maximum is what it was. -/
@[refl] theorem maxUpTo_zero (X : ℕ → ℕ → EReal) (o : ℕ) (G : ℕ → ℕ → EReal) : MaxUpTo X o 0 G G := by
  intro r l _ _ z
  exact ⟨fun h => ⟨h, fun t ht => absurd ht (Nat.not_lt_zero t)⟩, fun h => h.1⟩

/-- One more token of magnitudes met. -/
theorem MaxUpTo.succ {X : ℕ → ℕ → EReal} {o k : ℕ} {G a a' : ℕ → ℕ → EReal} (h : MaxUpTo X o k G a)
    (h' : ∀ r l, r < 16 → l < 128 → a' r l = max (a r l) (ab (X (128 * k + o + r) l))) : MaxUpTo X o (k + 1) G a' := by
  intro r l hr hl z
  rw [h' r l hr hl, max_le_iff, h r l hr hl z]
  constructor
  · rintro ⟨⟨h1, h2⟩, h3⟩
    refine ⟨h1, fun t ht => ?_⟩
    rcases Nat.lt_succ_iff_lt_or_eq.mp ht with h4 | rfl
    · exact h2 t h4
    · exact h3
  · rintro ⟨h1, h2⟩
    exact ⟨⟨h1, fun t ht => h2 t (by omega)⟩, h2 k (by omega)⟩

/-- Four carried maxima, of the four groups of 16 rows from row `o` of a token. -/
def MaxesUpTo (X : ℕ → ℕ → EReal) (o k : ℕ)
    (G a : FVec Ideal S16x128 .bf16 × FVec Ideal S16x128 .bf16 × FVec Ideal S16x128 .bf16 × FVec Ideal S16x128 .bf16) : Prop :=
  MaxUpTo X o k (at2 G.1) (at2 a.1) ∧ MaxUpTo X (o + 16) k (at2 G.2.1) (at2 a.2.1)
    ∧ MaxUpTo X (o + 32) k (at2 G.2.2.1) (at2 a.2.2.1) ∧ MaxUpTo X (o + 48) k (at2 G.2.2.2) (at2 a.2.2.2)

/-- Before the first trip the four carried maxima are what they were. -/
@[refl] theorem maxesUpTo_zero (X : ℕ → ℕ → EReal) (o : ℕ)
    (G : FVec Ideal S16x128 .bf16 × FVec Ideal S16x128 .bf16 × FVec Ideal S16x128 .bf16 × FVec Ideal S16x128 .bf16) : MaxesUpTo X o 0 G G :=
  ⟨maxUpTo_zero _ _ _, maxUpTo_zero _ _ _, maxUpTo_zero _ _ _, maxUpTo_zero _ _ _⟩

/-- After `k` trips, the buffer of codes by head that held `G` holds `f`: the eight heads from `H` of the first `32 k` tokens
    are the codes of the rows of `V`, 68 rows a token, eight rows a column tile. -/
def SplitUpTo (V : ℕ → ℕ → EReal) (H k : ℕ) (G f : ℕ → ℕ → ℕ → EReal) : Prop :=
  ∀ a b q, f a b q = if H ≤ a ∧ a < H + 8 ∧ b < 32 * k ∧ q < 1024 then V (68 * b + 8 * (q / 128) + (a - H)) (q % 128) else G a b q

/-- Before the first trip no codes are split. -/
@[refl] theorem splitUpTo_zero (V : ℕ → ℕ → EReal) (H : ℕ) (G : ℕ → ℕ → ℕ → EReal) : SplitUpTo V H 0 G G := by
  intro a b q; rw [if_neg (by omega)]

/-- One more block of tokens split by heads. -/
theorem SplitUpTo.succ {V : ℕ → ℕ → EReal} {H k : ℕ} {G f f' : ℕ → ℕ → ℕ → EReal} (h : SplitUpTo V H k G f)
    (h' : ∀ a b q, f' a b q = if H ≤ a ∧ a < H + 8 ∧ 32 * k ≤ b ∧ b < 32 * k + 32 ∧ q < 1024 then
      V (2176 * k + (68 * (b - 32 * k) + (8 * (q / 128) + (a - H)))) (q % 128) else f a b q) :
    SplitUpTo V H (k + 1) G f' := by
  intro a b q
  rw [h' a b q, h a b q]
  by_cases h1 : H ≤ a ∧ a < H + 8 ∧ 32 * k ≤ b ∧ b < 32 * k + 32 ∧ q < 1024
  · rw [if_pos h1, if_pos (by omega)]
    exact congrArg (V · _) (by omega)
  · rw [if_neg h1]
    by_cases h2 : H ≤ a ∧ a < H + 8 ∧ b < 32 * k ∧ q < 1024
    · rw [if_pos h2, if_pos (by omega)]
    · rw [if_neg h2, if_neg (by omega)]

end Cert.KernelIdeal.Val

end
-- ==== Proof.PI.Loops.lean ====
/- The kernel's four inner loops at the extended reals: what each leaves in the buffers, stated token by token. -/
module

public import proofs.«01_k».proof.Proof.PI.Pure
public import proofs.«01_k».proof.Proof.Gen.KernelIdeal.Frame

@[expose] public section

set_option maxRecDepth 16384

noncomputable section

namespace Cert.KernelIdeal.Val

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

/-! ## The trips' vectors -/

/-- In the loop over the first eight heads, the first 32 rows stored to the result are the codes of two tiles of 16. -/
theorem pay_t2_0 (v : FVec Ideal S16x128 .f32) (x0 x1 : FVec Ideal S16x128 .bf16) : k0_pay14 (F := Ideal) v x0 x1 = codes v x0 x1 := by
  show codes v (k0_pay10 (F := Ideal) x0) (k0_pay12 (F := Ideal) x1) = _
  rw [show k0_pay10 (F := Ideal) x0 = x0 from interleaveRows_rowsOfParity bitcasts_S16x128_w16_S8x128_w32 _, show k0_pay12 (F := Ideal) x1 = x1 from interleaveRows_rowsOfParity bitcasts_S16x128_w16_S8x128_w32 _]

/-- In the loop over the first eight heads, the last 32 rows stored to the result are the codes of two tiles of 16. -/
theorem pay_t2_1 (v : FVec Ideal S16x128 .f32) (x0 x1 : FVec Ideal S16x128 .bf16) :
    k0_pay82 (F := Ideal) v (k0_pay18 v x0) (k0_pay19 x1) (k0_pay20 x1) = codes v x0 x1 := by
  show codes v (k0_pay16 (F := Ideal) x0) (k0_pay80 (F := Ideal) (k0_pay19 x1) (k0_pay20 x1)) = _
  rw [show k0_pay16 (F := Ideal) x0 = x0 from interleaveRows_rowsOfParity bitcasts_S16x128_w16_S8x128_w32 _,
    show k0_pay80 (F := Ideal) (k0_pay19 x1) (k0_pay20 x1) = x1 from interleaveRows_rowsOfParity bitcasts_S16x128_w16_S8x128_w32 _]

/-- In the loop over the first eight heads, the first 32 rows stored to the scratch buffer are the same codes. -/
theorem pay_t2_0c (v : FVec Ideal S16x128 .f32) (x0 x1 : FVec Ideal S16x128 .bf16) :
    k0_pay15 (F := Ideal) (k0_pay14 v x0 x1) = codes v x0 x1 :=
  (cast_id (k0_pay14 (F := Ideal) v x0 x1) _).trans (pay_t2_0 v x0 x1)

/-- In the loop over the first eight heads, the last 32 rows stored to the scratch buffer are the same codes. -/
theorem pay_t2_1c (v : FVec Ideal S16x128 .f32) (x0 x1 : FVec Ideal S16x128 .bf16) :
    k0_pay83 (F := Ideal) v (k0_pay18 v x0) (k0_pay19 x1) (k0_pay20 x1) = codes v x0 x1 :=
  (cast_id (k0_pay82 (F := Ideal) v (k0_pay18 v x0) (k0_pay19 x1) (k0_pay20 x1)) _).trans (pay_t2_1 v x0 x1)

/-- In the loop over the first eight heads, running maximum 0 becomes the larger of it and the magnitudes of tile 0. -/
theorem pay_t2_a0 (a x : FVec Ideal S16x128 .bf16) : k0_pay11 (F := Ideal) a x = maximumf a (absf x) := by
  unfold k0_pay11 k0_pay10
  simp only [interleaveRows_rowsOfParity]

/-- In the loop over the first eight heads, running maximum 1 becomes the larger of it and the magnitudes of tile 1. -/
theorem pay_t2_a1 (a x : FVec Ideal S16x128 .bf16) : k0_pay13 (F := Ideal) a x = maximumf a (absf x) := by
  unfold k0_pay13 k0_pay12
  simp only [interleaveRows_rowsOfParity]

/-- In the loop over the first eight heads, running maximum 2 becomes the larger of it and the magnitudes of tile 2. -/
theorem pay_t2_a2 (a x : FVec Ideal S16x128 .bf16) : k0_pay17 (F := Ideal) a x = maximumf a (absf x) := by
  unfold k0_pay17 k0_pay16
  simp only [interleaveRows_rowsOfParity]

/-- In the loop over the first eight heads, running maximum 3 becomes the larger of it and the magnitudes of tile 3. -/
theorem pay_t2_a3 (a x : FVec Ideal S16x128 .bf16) : k0_pay81 (F := Ideal) a (k0_pay19 x) (k0_pay20 x) = maximumf a (absf x) := by
  unfold k0_pay81 k0_pay80 k0_pay19 k0_pay20
  simp only [interleaveRows_rowsOfParity]

/-- In the loop over the last eight heads, the first 32 rows stored to the result are the codes of two tiles of 16. -/
theorem pay_t4_0 (v : FVec Ideal S16x128 .f32) (x0 x1 : FVec Ideal S16x128 .bf16) : k0_pay32 (F := Ideal) v x0 x1 = codes v x0 x1 := by
  show codes v (k0_pay28 (F := Ideal) x0) (k0_pay30 (F := Ideal) x1) = _
  rw [show k0_pay28 (F := Ideal) x0 = x0 from interleaveRows_rowsOfParity bitcasts_S16x128_w16_S8x128_w32 _, show k0_pay30 (F := Ideal) x1 = x1 from interleaveRows_rowsOfParity bitcasts_S16x128_w16_S8x128_w32 _]

/-- In the loop over the last eight heads, the last 32 rows stored to the result are the codes of two tiles of 16. -/
theorem pay_t4_1 (v : FVec Ideal S16x128 .f32) (x0 x1 : FVec Ideal S16x128 .bf16) :
    k0_pay128 (F := Ideal) v (k0_pay36 v x0) (k0_pay37 x1) (k0_pay38 x1) = codes v x0 x1 := by
  show codes v (k0_pay34 (F := Ideal) x0) (k0_pay126 (F := Ideal) (k0_pay37 x1) (k0_pay38 x1)) = _
  rw [show k0_pay34 (F := Ideal) x0 = x0 from interleaveRows_rowsOfParity bitcasts_S16x128_w16_S8x128_w32 _,
    show k0_pay126 (F := Ideal) (k0_pay37 x1) (k0_pay38 x1) = x1 from interleaveRows_rowsOfParity bitcasts_S16x128_w16_S8x128_w32 _]

/-- In the loop over the last eight heads, the first 32 rows stored to the scratch buffer are the same codes. -/
theorem pay_t4_0c (v : FVec Ideal S16x128 .f32) (x0 x1 : FVec Ideal S16x128 .bf16) :
    k0_pay33 (F := Ideal) (k0_pay32 v x0 x1) = codes v x0 x1 :=
  (cast_id (k0_pay32 (F := Ideal) v x0 x1) _).trans (pay_t4_0 v x0 x1)

/-- In the loop over the last eight heads, the last 32 rows stored to the scratch buffer are the same codes. -/
theorem pay_t4_1c (v : FVec Ideal S16x128 .f32) (x0 x1 : FVec Ideal S16x128 .bf16) :
    k0_pay129 (F := Ideal) v (k0_pay36 v x0) (k0_pay37 x1) (k0_pay38 x1) = codes v x0 x1 :=
  (cast_id (k0_pay128 (F := Ideal) v (k0_pay36 v x0) (k0_pay37 x1) (k0_pay38 x1)) _).trans (pay_t4_1 v x0 x1)

/-- In the loop over the last eight heads, running maximum 0 becomes the larger of it and the magnitudes of tile 0. -/
theorem pay_t4_a0 (a x : FVec Ideal S16x128 .bf16) : k0_pay29 (F := Ideal) a x = maximumf a (absf x) := by
  unfold k0_pay29 k0_pay28
  simp only [interleaveRows_rowsOfParity]

/-- In the loop over the last eight heads, running maximum 1 becomes the larger of it and the magnitudes of tile 1. -/
theorem pay_t4_a1 (a x : FVec Ideal S16x128 .bf16) : k0_pay31 (F := Ideal) a x = maximumf a (absf x) := by
  unfold k0_pay31 k0_pay30
  simp only [interleaveRows_rowsOfParity]

/-- In the loop over the last eight heads, running maximum 2 becomes the larger of it and the magnitudes of tile 2. -/
theorem pay_t4_a2 (a x : FVec Ideal S16x128 .bf16) : k0_pay35 (F := Ideal) a x = maximumf a (absf x) := by
  unfold k0_pay35 k0_pay34
  simp only [interleaveRows_rowsOfParity]

/-- In the loop over the last eight heads, running maximum 3 becomes the larger of it and the magnitudes of tile 3. -/
theorem pay_t4_a3 (a x : FVec Ideal S16x128 .bf16) : k0_pay127 (F := Ideal) a (k0_pay37 x) (k0_pay38 x) = maximumf a (absf x) := by
  unfold k0_pay127 k0_pay126 k0_pay37 k0_pay38
  simp only [interleaveRows_rowsOfParity]

/-- One trip of the loop that lays out the codes of heads 8 … 16: 32 tokens more. -/
theorem trip_t1 (𝒱 : Variants) (c : Dev nD) (bd : Option 𝒱.V) (i : grid0.Coords) (arg1 : Memref sig .tc .vmem S16384x128 .bf16) (harg1 : arg1.IsWhole) (arg2 : Memref sig .tc .vmem S16x1024x640 .fp8e4m3) (harg2 : arg2.IsWhole) (arg3 : Memref sig .tc .vmem S16x640 .f32) (harg3 : arg3.IsWhole) (arg4 : Memref sig .tc .vmem S16x128 .f32) (harg4 : arg4.IsWhole) (arg5 : Memref sig .tc .vmem S10240x128 .bf16) (harg5 : arg5.IsWhole) (arg6 : Memref sig .tc .vmem S16384x128 .fp8e4m3) (harg6 : arg6.IsWhole) (arg7 : Memref sig .tc .vmem S16x128 .f32) (harg7 : arg7.IsWhole) (arg8 : Memref sig .tc .vmem S8736x128 .fp8e4m3) (harg8 : arg8.IsWhole) (arg9 : Memref sig .tc .vmem S8736x128 .fp8e4m3) (harg9 : arg9.IsWhole) (arg10 : Memref sig .tc .vmem S16x128x1024 .fp8e4m3) (harg10 : arg10.IsWhole) (arg11 : Memref sig .tc .vmem S16x640 .f32) (harg11 : arg11.IsWhole) (arg12 : Memref sig .tc .vmem S16x128 .f32) (harg12 : arg12.IsWhole) (E : Set ℕ) (k : Fin k0_t1_loop.trips) (v7 : FVec Ideal S16x128 .f32) (v120_lo v120_hi : FVec Ideal S128x640 .bf16) (v121_lo v121_hi : FVec Ideal S128x128 .bf16) (v123_raw : Vec Ideal S128x2x128 .bf16) (X : BufTy.Contents (Elt Ideal) arg9.view.ty) (f : BufTy.Contents (Elt Ideal) arg10.view.ty) (acc : PUnit) :
    iprop((arg9.view.loc (c : Thread nD τ) ↦[arg9.view.set]{fullShare} X) ∗ (arg10.view.loc (c : Thread nD τ) ↦[arg10.view.set]{fullShare} f))
      ⊢ wp frame (wpE (defs₀ (F := Ideal)) 𝒱 (c : Thread nD τ) bd) E (k0_t1_body (F := Ideal) i arg1 harg1 arg2 harg2 arg3 harg3 arg4 harg4 arg5 harg5 arg6 harg6 arg7 harg7 arg8 harg8 arg9 harg9 arg10 harg10 arg11 harg11 arg12 harg12 v7 v120_lo v120_hi v121_lo v121_hi v123_raw k acc)
        (fun _ => (iprop((arg9.view.loc (c : Thread nD τ) ↦[arg9.view.set]{fullShare} X) ∗ (∃ f', (arg10.view.loc (c : Thread nD τ) ↦[arg10.view.set]{fullShare} f')
          ∗ ⌜∀ a b q, at3 (arg10.view.read (Elt Ideal) f') a b q
              = if 8 ≤ a ∧ a < 8 + 8 ∧ 32 * k.val ≤ b ∧ b < 32 * k.val + 32 ∧ q < 1024 then
                  at2 (arg9.view.read (Elt Ideal) X) (2176 * k.val + (68 * (b - 32 * k.val) + (8 * (q / 128) + (a - 8)))) (q % 128)
                else at3 (arg10.view.read (Elt Ideal) f) a b q⌝)) : sProp 𝕄)) := by
  unfold k0_t1_body
  iintro ⟨HR, H10⟩
  sl_exec
  sl_step
  isplitl [HR]; · iexact HR
  iexists _; isplitl [H10]; · iexact H10
  ipureintro
  intro a b q
  refine (split_writes arg10 f (arg9.view.readAt (Elt Ideal) (Rect.unit (s := S8736x128) (k0_off1 k) S2176x128.size (by decide +revert)).toLoadRect X) 8 k.val
    (k0_off2 k) (k0_off3 k) (k0_off4 k) (k0_off5 k) (k0_off6 k) (k0_off7 k) (k0_off8 k) (k0_off9 k) (k0_off2_eq k) (k0_off3_eq k) (k0_off4_eq k) (k0_off5_eq k) (k0_off6_eq k) (k0_off7_eq k) (k0_off8_eq k) (k0_off9_eq k) _ _ _ _ _ _ _ _ (by decide) (by decide) (by decide) (by decide) (by decide) (by decide) (by decide) (by decide) a b q).trans ?_
  split_ifs with h
  · refine (at2_load arg9 X (k0_off1 k) (2176 * k.val) 0 (k0_off1_eq k) _ (show _ < 2176 by omega) (show _ < 128 by omega)).trans ?_
    rw [Nat.zero_add]
  · rfl

set_option warn.classDefReducibility false in
/-- The loop over the tokens, 32 a trip, that lays out the codes of heads 8 … 16. -/
@[sl_loop] def loop_t1 (𝒱 : Variants) (c : Dev nD) (bd : Option 𝒱.V) (E : Set ℕ) (i : grid0.Coords) (arg1 : Memref sig .tc .vmem S16384x128 .bf16) (harg1 : arg1.IsWhole) (arg2 : Memref sig .tc .vmem S16x1024x640 .fp8e4m3) (harg2 : arg2.IsWhole) (arg3 : Memref sig .tc .vmem S16x640 .f32) (harg3 : arg3.IsWhole) (arg4 : Memref sig .tc .vmem S16x128 .f32) (harg4 : arg4.IsWhole) (arg5 : Memref sig .tc .vmem S10240x128 .bf16) (harg5 : arg5.IsWhole) (arg6 : Memref sig .tc .vmem S16384x128 .fp8e4m3) (harg6 : arg6.IsWhole) (arg7 : Memref sig .tc .vmem S16x128 .f32) (harg7 : arg7.IsWhole) (arg8 : Memref sig .tc .vmem S8736x128 .fp8e4m3) (harg8 : arg8.IsWhole) (arg9 : Memref sig .tc .vmem S8736x128 .fp8e4m3) (harg9 : arg9.IsWhole) (arg10 : Memref sig .tc .vmem S16x128x1024 .fp8e4m3) (harg10 : arg10.IsWhole) (arg11 : Memref sig .tc .vmem S16x640 .f32) (harg11 : arg11.IsWhole) (arg12 : Memref sig .tc .vmem S16x128 .f32) (harg12 : arg12.IsWhole) (v7 : FVec Ideal S16x128 .f32) (v120_lo v120_hi : FVec Ideal S128x640 .bf16) (v121_lo v121_hi : FVec Ideal S128x128 .bf16) (v123_raw : Vec Ideal S128x2x128 .bf16) (X : BufTy.Contents (Elt Ideal) arg9.view.ty) (G : BufTy.Contents (Elt Ideal) arg10.view.ty) :
    LoopInvTy_k0_t1 (F := Ideal) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 v7 v120_lo v120_hi v121_lo v121_hi v123_raw where
  inv k _ := iprop((arg9.view.loc (c : Thread nD τ) ↦[arg9.view.set]{fullShare} X) ∗ (∃ f, (arg10.view.loc (c : Thread nD τ) ↦[arg10.view.set]{fullShare} f) ∗ ⌜atEntry k f = atEntry k G⌝
    ∗ ⌜SplitUpTo (at2 (arg9.view.read (Elt Ideal) X)) 8 k (at3 (arg10.view.read (Elt Ideal) G)) (at3 (arg10.view.read (Elt Ideal) f))⌝))
  step k acc := by
    iintro ⟨HR, ⟨%f, HW, %h0, %h⟩⟩
    iapply (wp_wand_r frame (wpE (defs₀ (F := Ideal)) 𝒱 (c : Thread nD τ) bd) E)
    isplitl [HR HW]
    · iapply (trip_t1 𝒱 c bd i arg1 harg1 arg2 harg2 arg3 harg3 arg4 harg4 arg5 harg5 arg6 harg6 arg7 harg7 arg8 harg8 arg9 harg9 arg10 harg10 arg11 harg11 arg12 harg12 E k v7 v120_lo v120_hi v121_lo v121_hi v123_raw X f acc)
      isplitl [HR]; · iexact HR
      iexact HW
    · iintro %_ ⟨HR, ⟨%f', HW, %h'⟩⟩
      isplitl [HR]; · iexact HR
      iexists f'; isplitl [HW]; · iexact HW
      isplitr
      · ipureintro; rfl
      · ipureintro; exact h.succ h'

set_option maxHeartbeats 1000000 in
/-- One trip of the loop that quantises rows 0 … 64 of every token: one token more. -/
theorem trip_t2 (𝒱 : Variants) (c : Dev nD) (bd : Option 𝒱.V) (i : grid0.Coords) (arg1 : Memref sig .tc .vmem S16384x128 .bf16) (harg1 : arg1.IsWhole) (arg2 : Memref sig .tc .vmem S16x1024x640 .fp8e4m3) (harg2 : arg2.IsWhole) (arg3 : Memref sig .tc .vmem S16x640 .f32) (harg3 : arg3.IsWhole) (arg4 : Memref sig .tc .vmem S16x128 .f32) (harg4 : arg4.IsWhole) (arg5 : Memref sig .tc .vmem S10240x128 .bf16) (harg5 : arg5.IsWhole) (arg6 : Memref sig .tc .vmem S16384x128 .fp8e4m3) (harg6 : arg6.IsWhole) (arg7 : Memref sig .tc .vmem S16x128 .f32) (harg7 : arg7.IsWhole) (arg8 : Memref sig .tc .vmem S8736x128 .fp8e4m3) (harg8 : arg8.IsWhole) (arg9 : Memref sig .tc .vmem S8736x128 .fp8e4m3) (harg9 : arg9.IsWhole) (arg10 : Memref sig .tc .vmem S16x128x1024 .fp8e4m3) (harg10 : arg10.IsWhole) (arg11 : Memref sig .tc .vmem S16x640 .f32) (harg11 : arg11.IsWhole) (arg12 : Memref sig .tc .vmem S16x128 .f32) (harg12 : arg12.IsWhole) (E : Set ℕ) (k : Fin k0_t2_loop.trips) (v7 : FVec Ideal S16x128 .f32) (v120_lo v120_hi : FVec Ideal S128x640 .bf16) (v121_lo v121_hi : FVec Ideal S128x128 .bf16) (v123_raw : Vec Ideal S128x2x128 .bf16) (X : BufTy.Contents (Elt Ideal) arg1.view.ty) (f6 : BufTy.Contents (Elt Ideal) arg6.view.ty) (f8 : BufTy.Contents (Elt Ideal) arg8.view.ty) (acc : FVec Ideal S16x128 .bf16 × FVec Ideal S16x128 .bf16 × FVec Ideal S16x128 .bf16 × FVec Ideal S16x128 .bf16) :
    iprop((arg1.view.loc (c : Thread nD τ) ↦[arg1.view.set]{fullShare} X) ∗ (arg6.view.loc (c : Thread nD τ) ↦[arg6.view.set]{fullShare} f6) ∗ (arg8.view.loc (c : Thread nD τ) ↦[arg8.view.set]{fullShare} f8))
      ⊢ wp frame (wpE (defs₀ (F := Ideal)) 𝒱 (c : Thread nD τ) bd) E (k0_t2_body (F := Ideal) i arg1 harg1 arg2 harg2 arg3 harg3 arg4 harg4 arg5 harg5 arg6 harg6 arg7 harg7 arg8 harg8 arg9 harg9 arg10 harg10 arg11 harg11 arg12 harg12 v7 v120_lo v120_hi v121_lo v121_hi v123_raw k acc)
        (fun z => (iprop((arg1.view.loc (c : Thread nD τ) ↦[arg1.view.set]{fullShare} X)
          ∗ (∃ f', (arg6.view.loc (c : Thread nD τ) ↦[arg6.view.set]{fullShare} f') ∗ ⌜∀ r l, at2 (arg6.view.read (Elt Ideal) f') r l = if 128 * k.val + 0 ≤ r ∧ r < 128 * k.val + 0 + 64 ∧ l < 128 then qz (at2 (arg1.view.read (Elt Ideal) X) (128 * k.val + 0 + (r - (128 * k.val + 0))) l) (at2 v7 ((r - (128 * k.val + 0)) % 16) l) else at2 (arg6.view.read (Elt Ideal) f6) r l⌝)
          ∗ (∃ f', (arg8.view.loc (c : Thread nD τ) ↦[arg8.view.set]{fullShare} f') ∗ ⌜∀ r l, at2 (arg8.view.read (Elt Ideal) f') r l = if 68 * k.val + 0 ≤ r ∧ r < 68 * k.val + 0 + 64 ∧ l < 128 then qz (at2 (arg1.view.read (Elt Ideal) X) (128 * k.val + 0 + (r - (68 * k.val + 0))) l) (at2 v7 ((r - (68 * k.val + 0)) % 16) l) else at2 (arg8.view.read (Elt Ideal) f8) r l⌝)
          ∗ ⌜(∀ r l, r < 16 → l < 128 → at2 z.1 r l = max (at2 acc.1 r l) (ab (at2 (arg1.view.read (Elt Ideal) X) (128 * k.val + 0 + r) l))) ∧ (∀ r l, r < 16 → l < 128 → at2 z.2.1 r l = max (at2 acc.2.1 r l) (ab (at2 (arg1.view.read (Elt Ideal) X) (128 * k.val + 16 + r) l))) ∧ (∀ r l, r < 16 → l < 128 → at2 z.2.2.1 r l = max (at2 acc.2.2.1 r l) (ab (at2 (arg1.view.read (Elt Ideal) X) (128 * k.val + 32 + r) l))) ∧ (∀ r l, r < 16 → l < 128 → at2 z.2.2.2 r l = max (at2 acc.2.2.2 r l) (ab (at2 (arg1.view.read (Elt Ideal) X) (128 * k.val + 48 + r) l)))⌝) : sProp 𝕄)) := by
  have hk : k.val < 128 := Nat.lt_of_lt_of_le k.isLt k0_t2_abs.2.1
  obtain ⟨a0, a1, a2, a3⟩ := acc
  unfold k0_t2_body
  iintro ⟨HR, H6, H8⟩
  sl_exec
  sl_step
  isplitl [HR]; · iexact HR
  isplitl [H6]
  · iexists _; isplitl [H6]; · iexact H6
    ipureintro
    intro r l
    exact codes_writes arg1 X v7 arg6 f6 (k0_off10 k 0#32) (k0_off10 k 8#32) (k0_off10 k 16#32) (k0_off10 k 24#32) (128 * k.val + 0)
      ((k0_off10_eq k 0).trans (congrArg (fun z => (![z, 0] : Fin 2 → ℕ)) (by show 128 * k.val + 16 * 0 = 128 * k.val + 0; omega)))
      ((k0_off10_eq k 1).trans (congrArg (fun z => (![z, 0] : Fin 2 → ℕ)) (by show 128 * k.val + 16 * 1 = 128 * k.val + 0 + 16; omega)))
      ((k0_off10_eq k 2).trans (congrArg (fun z => (![z, 0] : Fin 2 → ℕ)) (by show 128 * k.val + 16 * 2 = 128 * k.val + 0 + 32; omega)))
      ((k0_off10_eq k 3).trans (congrArg (fun z => (![z, 0] : Fin 2 → ℕ)) (by show 128 * k.val + 16 * 3 = 128 * k.val + 0 + 48; omega)))
      _ _ _ _ (k0_off11 k 0#32) (k0_off11 k 8#32) (128 * k.val + 0)
      ((k0_off11_eq k 0).trans (congrArg (fun z => (![z, 0] : Fin 2 → ℕ)) (by show 128 * k.val + 32 * 0 = 128 * k.val + 0; omega)))
      ((k0_off11_eq k 1).trans (congrArg (fun z => (![z, 0] : Fin 2 → ℕ)) (by show 128 * k.val + 32 * 1 = 128 * k.val + 0 + 32; omega)))
      _ _ _ _ (pay_t2_0 v7 _ _) (pay_t2_1 v7 _ _) r l
  isplitl [H8]
  · iexists _; isplitl [H8]; · iexact H8
    ipureintro
    intro r l
    exact codes_writes arg1 X v7 arg8 f8 (k0_off10 k 0#32) (k0_off10 k 8#32) (k0_off10 k 16#32) (k0_off10 k 24#32) (128 * k.val + 0)
      ((k0_off10_eq k 0).trans (congrArg (fun z => (![z, 0] : Fin 2 → ℕ)) (by show 128 * k.val + 16 * 0 = 128 * k.val + 0; omega)))
      ((k0_off10_eq k 1).trans (congrArg (fun z => (![z, 0] : Fin 2 → ℕ)) (by show 128 * k.val + 16 * 1 = 128 * k.val + 0 + 16; omega)))
      ((k0_off10_eq k 2).trans (congrArg (fun z => (![z, 0] : Fin 2 → ℕ)) (by show 128 * k.val + 16 * 2 = 128 * k.val + 0 + 32; omega)))
      ((k0_off10_eq k 3).trans (congrArg (fun z => (![z, 0] : Fin 2 → ℕ)) (by show 128 * k.val + 16 * 3 = 128 * k.val + 0 + 48; omega)))
      _ _ _ _ (k0_off12 k 0#32) (k0_off12 k 8#32) (68 * k.val + 0)
      ((k0_off12_eq k 0).trans (congrArg (fun z => (![z, 0] : Fin 2 → ℕ)) (by show 68 * k.val + 32 * 0 = 68 * k.val + 0; omega)))
      ((k0_off12_eq k 1).trans (congrArg (fun z => (![z, 0] : Fin 2 → ℕ)) (by show 68 * k.val + 32 * 1 = 68 * k.val + 0 + 32; omega)))
      _ _ _ _ (pay_t2_0c v7 _ _) (pay_t2_1c v7 _ _) r l
  ipureintro
  refine ⟨?_, ?_, ?_, ?_⟩
  · intro r l hr hl
    exact max_load arg1 X a0 _ (k0_off10 k 0#32) (128 * k.val + 0)
      ((k0_off10_eq k 0).trans (congrArg (fun z => (![z, 0] : Fin 2 → ℕ)) (by show 128 * k.val + 16 * 0 = 128 * k.val + 0; omega))) _ (pay_t2_a0 a0 _) hr hl
  · intro r l hr hl
    exact max_load arg1 X a1 _ (k0_off10 k 8#32) (128 * k.val + 16)
      ((k0_off10_eq k 1).trans (congrArg (fun z => (![z, 0] : Fin 2 → ℕ)) (by show 128 * k.val + 16 * 1 = 128 * k.val + 16; omega))) _ (pay_t2_a1 a1 _) hr hl
  · intro r l hr hl
    exact max_load arg1 X a2 _ (k0_off10 k 16#32) (128 * k.val + 32)
      ((k0_off10_eq k 2).trans (congrArg (fun z => (![z, 0] : Fin 2 → ℕ)) (by show 128 * k.val + 16 * 2 = 128 * k.val + 32; omega))) _ (pay_t2_a2 a2 _) hr hl
  · intro r l hr hl
    exact max_load arg1 X a3 _ (k0_off10 k 24#32) (128 * k.val + 48)
      ((k0_off10_eq k 3).trans (congrArg (fun z => (![z, 0] : Fin 2 → ℕ)) (by show 128 * k.val + 16 * 3 = 128 * k.val + 48; omega))) _ (pay_t2_a3 a3 _) hr hl

set_option warn.classDefReducibility false in
/-- The loop over the tokens that quantises rows 0 … 64 of each. -/
@[sl_loop] def loop_t2 (𝒱 : Variants) (c : Dev nD) (bd : Option 𝒱.V) (E : Set ℕ) (i : grid0.Coords) (arg1 : Memref sig .tc .vmem S16384x128 .bf16) (harg1 : arg1.IsWhole) (arg2 : Memref sig .tc .vmem S16x1024x640 .fp8e4m3) (harg2 : arg2.IsWhole) (arg3 : Memref sig .tc .vmem S16x640 .f32) (harg3 : arg3.IsWhole) (arg4 : Memref sig .tc .vmem S16x128 .f32) (harg4 : arg4.IsWhole) (arg5 : Memref sig .tc .vmem S10240x128 .bf16) (harg5 : arg5.IsWhole) (arg6 : Memref sig .tc .vmem S16384x128 .fp8e4m3) (harg6 : arg6.IsWhole) (arg7 : Memref sig .tc .vmem S16x128 .f32) (harg7 : arg7.IsWhole) (arg8 : Memref sig .tc .vmem S8736x128 .fp8e4m3) (harg8 : arg8.IsWhole) (arg9 : Memref sig .tc .vmem S8736x128 .fp8e4m3) (harg9 : arg9.IsWhole) (arg10 : Memref sig .tc .vmem S16x128x1024 .fp8e4m3) (harg10 : arg10.IsWhole) (arg11 : Memref sig .tc .vmem S16x640 .f32) (harg11 : arg11.IsWhole) (arg12 : Memref sig .tc .vmem S16x128 .f32) (harg12 : arg12.IsWhole) (v7 : FVec Ideal S16x128 .f32) (v120_lo v120_hi : FVec Ideal S128x640 .bf16) (v121_lo v121_hi : FVec Ideal S128x128 .bf16) (v123_raw : Vec Ideal S128x2x128 .bf16) (X : BufTy.Contents (Elt Ideal) arg1.view.ty) (G6 : BufTy.Contents (Elt Ideal) arg6.view.ty) (G8 : BufTy.Contents (Elt Ideal) arg8.view.ty) (init : FVec Ideal S16x128 .bf16 × FVec Ideal S16x128 .bf16 × FVec Ideal S16x128 .bf16 × FVec Ideal S16x128 .bf16) :
    LoopInvTy_k0_t2 (F := Ideal) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 v7 v120_lo v120_hi v121_lo v121_hi v123_raw init where
  inv k acc := iprop((arg1.view.loc (c : Thread nD τ) ↦[arg1.view.set]{fullShare} X)
    ∗ (∃ f, (arg6.view.loc (c : Thread nD τ) ↦[arg6.view.set]{fullShare} f) ∗ ⌜atEntry k f = atEntry k G6⌝ ∗ ⌜CodesUpTo (at2 (arg1.view.read (Elt Ideal) X)) (at2 v7) 0 128 0 k (at2 (arg6.view.read (Elt Ideal) G6)) (at2 (arg6.view.read (Elt Ideal) f))⌝)
    ∗ (∃ f, (arg8.view.loc (c : Thread nD τ) ↦[arg8.view.set]{fullShare} f) ∗ ⌜atEntry k f = atEntry k G8⌝ ∗ ⌜CodesUpTo (at2 (arg1.view.read (Elt Ideal) X)) (at2 v7) 0 68 0 k (at2 (arg8.view.read (Elt Ideal) G8)) (at2 (arg8.view.read (Elt Ideal) f))⌝)
    ∗ ⌜MaxesUpTo (at2 (arg1.view.read (Elt Ideal) X)) 0 k init acc⌝)
  step k acc := by
    iintro ⟨HR, ⟨%f6, H6, %p6, %h6⟩, ⟨%f8, H8, %p8, %h8⟩, %ha⟩
    iapply (wp_wand_r frame (wpE (defs₀ (F := Ideal)) 𝒱 (c : Thread nD τ) bd) E)
    isplitl [HR H6 H8]
    · iapply (trip_t2 𝒱 c bd i arg1 harg1 arg2 harg2 arg3 harg3 arg4 harg4 arg5 harg5 arg6 harg6 arg7 harg7 arg8 harg8 arg9 harg9 arg10 harg10 arg11 harg11 arg12 harg12 E k v7 v120_lo v120_hi v121_lo v121_hi v123_raw X f6 f8 acc)
      isplitl [HR]; · iexact HR
      isplitl [H6]; · iexact H6
      iexact H8
    · iintro %_ ⟨HR, ⟨%f6', H6, %h6'⟩, ⟨%f8', H8, %h8'⟩, %ha'⟩
      isplitl [HR]; · iexact HR
      isplitl [H6]
      · iexists f6'; isplitl [H6]; · iexact H6
        isplitr
        · ipureintro; rfl
        · ipureintro; exact h6.succ (.inl rfl) (by decide) h6'
      isplitl [H8]
      · iexists f8'; isplitl [H8]; · iexact H8
        isplitr
        · ipureintro; rfl
        · ipureintro; exact h8.succ (.inr rfl) (by decide) h8'
      ipureintro
      exact ⟨ha.1.succ ha'.1, ha.2.1.succ ha'.2.1, ha.2.2.1.succ ha'.2.2.1, ha.2.2.2.succ ha'.2.2.2⟩

/-- One trip of the loop that lays out the codes of heads 0 … 8: 32 tokens more. -/
theorem trip_t3 (𝒱 : Variants) (c : Dev nD) (bd : Option 𝒱.V) (i : grid0.Coords) (arg1 : Memref sig .tc .vmem S16384x128 .bf16) (harg1 : arg1.IsWhole) (arg2 : Memref sig .tc .vmem S16x1024x640 .fp8e4m3) (harg2 : arg2.IsWhole) (arg3 : Memref sig .tc .vmem S16x640 .f32) (harg3 : arg3.IsWhole) (arg4 : Memref sig .tc .vmem S16x128 .f32) (harg4 : arg4.IsWhole) (arg5 : Memref sig .tc .vmem S10240x128 .bf16) (harg5 : arg5.IsWhole) (arg6 : Memref sig .tc .vmem S16384x128 .fp8e4m3) (harg6 : arg6.IsWhole) (arg7 : Memref sig .tc .vmem S16x128 .f32) (harg7 : arg7.IsWhole) (arg8 : Memref sig .tc .vmem S8736x128 .fp8e4m3) (harg8 : arg8.IsWhole) (arg9 : Memref sig .tc .vmem S8736x128 .fp8e4m3) (harg9 : arg9.IsWhole) (arg10 : Memref sig .tc .vmem S16x128x1024 .fp8e4m3) (harg10 : arg10.IsWhole) (arg11 : Memref sig .tc .vmem S16x640 .f32) (harg11 : arg11.IsWhole) (arg12 : Memref sig .tc .vmem S16x128 .f32) (harg12 : arg12.IsWhole) (E : Set ℕ) (k : Fin k0_t3_loop.trips) (v156 : FVec Ideal S16x128 .f32) (v269_lo v269_hi : FVec Ideal S128x640 .bf16) (v270_lo v270_hi : FVec Ideal S128x128 .bf16) (X : BufTy.Contents (Elt Ideal) arg8.view.ty) (f : BufTy.Contents (Elt Ideal) arg10.view.ty) (acc : PUnit) :
    iprop((arg8.view.loc (c : Thread nD τ) ↦[arg8.view.set]{fullShare} X) ∗ (arg10.view.loc (c : Thread nD τ) ↦[arg10.view.set]{fullShare} f))
      ⊢ wp frame (wpE (defs₀ (F := Ideal)) 𝒱 (c : Thread nD τ) bd) E (k0_t3_body (F := Ideal) i arg1 harg1 arg2 harg2 arg3 harg3 arg4 harg4 arg5 harg5 arg6 harg6 arg7 harg7 arg8 harg8 arg9 harg9 arg10 harg10 arg11 harg11 arg12 harg12 v156 v269_lo v269_hi v270_lo v270_hi k acc)
        (fun _ => (iprop((arg8.view.loc (c : Thread nD τ) ↦[arg8.view.set]{fullShare} X) ∗ (∃ f', (arg10.view.loc (c : Thread nD τ) ↦[arg10.view.set]{fullShare} f')
          ∗ ⌜∀ a b q, at3 (arg10.view.read (Elt Ideal) f') a b q
              = if 0 ≤ a ∧ a < 0 + 8 ∧ 32 * k.val ≤ b ∧ b < 32 * k.val + 32 ∧ q < 1024 then
                  at2 (arg8.view.read (Elt Ideal) X) (2176 * k.val + (68 * (b - 32 * k.val) + (8 * (q / 128) + (a - 0)))) (q % 128)
                else at3 (arg10.view.read (Elt Ideal) f) a b q⌝)) : sProp 𝕄)) := by
  unfold k0_t3_body
  iintro ⟨HR, H10⟩
  sl_exec
  sl_step
  isplitl [HR]; · iexact HR
  iexists _; isplitl [H10]; · iexact H10
  ipureintro
  intro a b q
  refine (split_writes arg10 f (arg8.view.readAt (Elt Ideal) (Rect.unit (s := S8736x128) (k0_off13 k) S2176x128.size (by decide +revert)).toLoadRect X) 0 k.val
    (k0_off14 k) (k0_off15 k) (k0_off16 k) (k0_off17 k) (k0_off18 k) (k0_off19 k) (k0_off20 k) (k0_off21 k) (k0_off14_eq k) (k0_off15_eq k) (k0_off16_eq k) (k0_off17_eq k) (k0_off18_eq k) (k0_off19_eq k) (k0_off20_eq k) (k0_off21_eq k) _ _ _ _ _ _ _ _ (by decide) (by decide) (by decide) (by decide) (by decide) (by decide) (by decide) (by decide) a b q).trans ?_
  split_ifs with h
  · refine (at2_load arg8 X (k0_off13 k) (2176 * k.val) 0 (k0_off13_eq k) _ (show _ < 2176 by omega) (show _ < 128 by omega)).trans ?_
    rw [Nat.zero_add]
  · rfl

set_option warn.classDefReducibility false in
/-- The loop over the tokens, 32 a trip, that lays out the codes of heads 0 … 8. -/
@[sl_loop] def loop_t3 (𝒱 : Variants) (c : Dev nD) (bd : Option 𝒱.V) (E : Set ℕ) (i : grid0.Coords) (arg1 : Memref sig .tc .vmem S16384x128 .bf16) (harg1 : arg1.IsWhole) (arg2 : Memref sig .tc .vmem S16x1024x640 .fp8e4m3) (harg2 : arg2.IsWhole) (arg3 : Memref sig .tc .vmem S16x640 .f32) (harg3 : arg3.IsWhole) (arg4 : Memref sig .tc .vmem S16x128 .f32) (harg4 : arg4.IsWhole) (arg5 : Memref sig .tc .vmem S10240x128 .bf16) (harg5 : arg5.IsWhole) (arg6 : Memref sig .tc .vmem S16384x128 .fp8e4m3) (harg6 : arg6.IsWhole) (arg7 : Memref sig .tc .vmem S16x128 .f32) (harg7 : arg7.IsWhole) (arg8 : Memref sig .tc .vmem S8736x128 .fp8e4m3) (harg8 : arg8.IsWhole) (arg9 : Memref sig .tc .vmem S8736x128 .fp8e4m3) (harg9 : arg9.IsWhole) (arg10 : Memref sig .tc .vmem S16x128x1024 .fp8e4m3) (harg10 : arg10.IsWhole) (arg11 : Memref sig .tc .vmem S16x640 .f32) (harg11 : arg11.IsWhole) (arg12 : Memref sig .tc .vmem S16x128 .f32) (harg12 : arg12.IsWhole) (v156 : FVec Ideal S16x128 .f32) (v269_lo v269_hi : FVec Ideal S128x640 .bf16) (v270_lo v270_hi : FVec Ideal S128x128 .bf16) (X : BufTy.Contents (Elt Ideal) arg8.view.ty) (G : BufTy.Contents (Elt Ideal) arg10.view.ty) :
    LoopInvTy_k0_t3 (F := Ideal) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 v156 v269_lo v269_hi v270_lo v270_hi where
  inv k _ := iprop((arg8.view.loc (c : Thread nD τ) ↦[arg8.view.set]{fullShare} X) ∗ (∃ f, (arg10.view.loc (c : Thread nD τ) ↦[arg10.view.set]{fullShare} f) ∗ ⌜atEntry k f = atEntry k G⌝
    ∗ ⌜SplitUpTo (at2 (arg8.view.read (Elt Ideal) X)) 0 k (at3 (arg10.view.read (Elt Ideal) G)) (at3 (arg10.view.read (Elt Ideal) f))⌝))
  step k acc := by
    iintro ⟨HR, ⟨%f, HW, %h0, %h⟩⟩
    iapply (wp_wand_r frame (wpE (defs₀ (F := Ideal)) 𝒱 (c : Thread nD τ) bd) E)
    isplitl [HR HW]
    · iapply (trip_t3 𝒱 c bd i arg1 harg1 arg2 harg2 arg3 harg3 arg4 harg4 arg5 harg5 arg6 harg6 arg7 harg7 arg8 harg8 arg9 harg9 arg10 harg10 arg11 harg11 arg12 harg12 E k v156 v269_lo v269_hi v270_lo v270_hi X f acc)
      isplitl [HR]; · iexact HR
      iexact HW
    · iintro %_ ⟨HR, ⟨%f', HW, %h'⟩⟩
      isplitl [HR]; · iexact HR
      iexists f'; isplitl [HW]; · iexact HW
      isplitr
      · ipureintro; rfl
      · ipureintro; exact h.succ h'

set_option maxHeartbeats 1000000 in
/-- One trip of the loop that quantises rows 64 … 128 of every token: one token more. -/
theorem trip_t4 (𝒱 : Variants) (c : Dev nD) (bd : Option 𝒱.V) (i : grid0.Coords) (arg1 : Memref sig .tc .vmem S16384x128 .bf16) (harg1 : arg1.IsWhole) (arg2 : Memref sig .tc .vmem S16x1024x640 .fp8e4m3) (harg2 : arg2.IsWhole) (arg3 : Memref sig .tc .vmem S16x640 .f32) (harg3 : arg3.IsWhole) (arg4 : Memref sig .tc .vmem S16x128 .f32) (harg4 : arg4.IsWhole) (arg5 : Memref sig .tc .vmem S10240x128 .bf16) (harg5 : arg5.IsWhole) (arg6 : Memref sig .tc .vmem S16384x128 .fp8e4m3) (harg6 : arg6.IsWhole) (arg7 : Memref sig .tc .vmem S16x128 .f32) (harg7 : arg7.IsWhole) (arg8 : Memref sig .tc .vmem S8736x128 .fp8e4m3) (harg8 : arg8.IsWhole) (arg9 : Memref sig .tc .vmem S8736x128 .fp8e4m3) (harg9 : arg9.IsWhole) (arg10 : Memref sig .tc .vmem S16x128x1024 .fp8e4m3) (harg10 : arg10.IsWhole) (arg11 : Memref sig .tc .vmem S16x640 .f32) (harg11 : arg11.IsWhole) (arg12 : Memref sig .tc .vmem S16x128 .f32) (harg12 : arg12.IsWhole) (E : Set ℕ) (k : Fin k0_t4_loop.trips) (v156 : FVec Ideal S16x128 .f32) (v269_lo v269_hi : FVec Ideal S128x640 .bf16) (v270_lo v270_hi : FVec Ideal S128x128 .bf16) (X : BufTy.Contents (Elt Ideal) arg1.view.ty) (f6 : BufTy.Contents (Elt Ideal) arg6.view.ty) (f8 : BufTy.Contents (Elt Ideal) arg9.view.ty) (acc : FVec Ideal S16x128 .bf16 × FVec Ideal S16x128 .bf16 × FVec Ideal S16x128 .bf16 × FVec Ideal S16x128 .bf16) :
    iprop((arg1.view.loc (c : Thread nD τ) ↦[arg1.view.set]{fullShare} X) ∗ (arg6.view.loc (c : Thread nD τ) ↦[arg6.view.set]{fullShare} f6) ∗ (arg9.view.loc (c : Thread nD τ) ↦[arg9.view.set]{fullShare} f8))
      ⊢ wp frame (wpE (defs₀ (F := Ideal)) 𝒱 (c : Thread nD τ) bd) E (k0_t4_body (F := Ideal) i arg1 harg1 arg2 harg2 arg3 harg3 arg4 harg4 arg5 harg5 arg6 harg6 arg7 harg7 arg8 harg8 arg9 harg9 arg10 harg10 arg11 harg11 arg12 harg12 v156 v269_lo v269_hi v270_lo v270_hi k acc)
        (fun z => (iprop((arg1.view.loc (c : Thread nD τ) ↦[arg1.view.set]{fullShare} X)
          ∗ (∃ f', (arg6.view.loc (c : Thread nD τ) ↦[arg6.view.set]{fullShare} f') ∗ ⌜∀ r l, at2 (arg6.view.read (Elt Ideal) f') r l = if 128 * k.val + 64 ≤ r ∧ r < 128 * k.val + 64 + 64 ∧ l < 128 then qz (at2 (arg1.view.read (Elt Ideal) X) (128 * k.val + 64 + (r - (128 * k.val + 64))) l) (at2 v156 ((r - (128 * k.val + 64)) % 16) l) else at2 (arg6.view.read (Elt Ideal) f6) r l⌝)
          ∗ (∃ f', (arg9.view.loc (c : Thread nD τ) ↦[arg9.view.set]{fullShare} f') ∗ ⌜∀ r l, at2 (arg9.view.read (Elt Ideal) f') r l = if 68 * k.val + 0 ≤ r ∧ r < 68 * k.val + 0 + 64 ∧ l < 128 then qz (at2 (arg1.view.read (Elt Ideal) X) (128 * k.val + 64 + (r - (68 * k.val + 0))) l) (at2 v156 ((r - (68 * k.val + 0)) % 16) l) else at2 (arg9.view.read (Elt Ideal) f8) r l⌝)
          ∗ ⌜(∀ r l, r < 16 → l < 128 → at2 z.1 r l = max (at2 acc.1 r l) (ab (at2 (arg1.view.read (Elt Ideal) X) (128 * k.val + 64 + r) l))) ∧ (∀ r l, r < 16 → l < 128 → at2 z.2.1 r l = max (at2 acc.2.1 r l) (ab (at2 (arg1.view.read (Elt Ideal) X) (128 * k.val + 80 + r) l))) ∧ (∀ r l, r < 16 → l < 128 → at2 z.2.2.1 r l = max (at2 acc.2.2.1 r l) (ab (at2 (arg1.view.read (Elt Ideal) X) (128 * k.val + 96 + r) l))) ∧ (∀ r l, r < 16 → l < 128 → at2 z.2.2.2 r l = max (at2 acc.2.2.2 r l) (ab (at2 (arg1.view.read (Elt Ideal) X) (128 * k.val + 112 + r) l)))⌝) : sProp 𝕄)) := by
  have hk : k.val < 128 := Nat.lt_of_lt_of_le k.isLt k0_t4_abs.2.1
  obtain ⟨a0, a1, a2, a3⟩ := acc
  unfold k0_t4_body
  iintro ⟨HR, H6, H8⟩
  sl_exec
  sl_step
  isplitl [HR]; · iexact HR
  isplitl [H6]
  · iexists _; isplitl [H6]; · iexact H6
    ipureintro
    intro r l
    exact codes_writes arg1 X v156 arg6 f6 (k0_off22 k 0#32) (k0_off22 k 8#32) (k0_off22 k 16#32) (k0_off22 k 24#32) (128 * k.val + 64)
      ((k0_off22_eq k 0).trans (congrArg (fun z => (![z, 0] : Fin 2 → ℕ)) (by show 128 * k.val + 16 * 0 + 64 = 128 * k.val + 64; omega)))
      ((k0_off22_eq k 1).trans (congrArg (fun z => (![z, 0] : Fin 2 → ℕ)) (by show 128 * k.val + 16 * 1 + 64 = 128 * k.val + 64 + 16; omega)))
      ((k0_off22_eq k 2).trans (congrArg (fun z => (![z, 0] : Fin 2 → ℕ)) (by show 128 * k.val + 16 * 2 + 64 = 128 * k.val + 64 + 32; omega)))
      ((k0_off22_eq k 3).trans (congrArg (fun z => (![z, 0] : Fin 2 → ℕ)) (by show 128 * k.val + 16 * 3 + 64 = 128 * k.val + 64 + 48; omega)))
      _ _ _ _ (k0_off23 k 0#32) (k0_off23 k 8#32) (128 * k.val + 64)
      ((k0_off23_eq k 0).trans (congrArg (fun z => (![z, 0] : Fin 2 → ℕ)) (by show 128 * k.val + 32 * 0 + 64 = 128 * k.val + 64; omega)))
      ((k0_off23_eq k 1).trans (congrArg (fun z => (![z, 0] : Fin 2 → ℕ)) (by show 128 * k.val + 32 * 1 + 64 = 128 * k.val + 64 + 32; omega)))
      _ _ _ _ (pay_t4_0 v156 _ _) (pay_t4_1 v156 _ _) r l
  isplitl [H8]
  · iexists _; isplitl [H8]; · iexact H8
    ipureintro
    intro r l
    exact codes_writes arg1 X v156 arg9 f8 (k0_off22 k 0#32) (k0_off22 k 8#32) (k0_off22 k 16#32) (k0_off22 k 24#32) (128 * k.val + 64)
      ((k0_off22_eq k 0).trans (congrArg (fun z => (![z, 0] : Fin 2 → ℕ)) (by show 128 * k.val + 16 * 0 + 64 = 128 * k.val + 64; omega)))
      ((k0_off22_eq k 1).trans (congrArg (fun z => (![z, 0] : Fin 2 → ℕ)) (by show 128 * k.val + 16 * 1 + 64 = 128 * k.val + 64 + 16; omega)))
      ((k0_off22_eq k 2).trans (congrArg (fun z => (![z, 0] : Fin 2 → ℕ)) (by show 128 * k.val + 16 * 2 + 64 = 128 * k.val + 64 + 32; omega)))
      ((k0_off22_eq k 3).trans (congrArg (fun z => (![z, 0] : Fin 2 → ℕ)) (by show 128 * k.val + 16 * 3 + 64 = 128 * k.val + 64 + 48; omega)))
      _ _ _ _ (k0_off24 k 0#32) (k0_off24 k 8#32) (68 * k.val + 0)
      ((k0_off24_eq k 0).trans (congrArg (fun z => (![z, 0] : Fin 2 → ℕ)) (by show 68 * k.val + 32 * 0 = 68 * k.val + 0; omega)))
      ((k0_off24_eq k 1).trans (congrArg (fun z => (![z, 0] : Fin 2 → ℕ)) (by show 68 * k.val + 32 * 1 = 68 * k.val + 0 + 32; omega)))
      _ _ _ _ (pay_t4_0c v156 _ _) (pay_t4_1c v156 _ _) r l
  ipureintro
  refine ⟨?_, ?_, ?_, ?_⟩
  · intro r l hr hl
    exact max_load arg1 X a0 _ (k0_off22 k 0#32) (128 * k.val + 64)
      ((k0_off22_eq k 0).trans (congrArg (fun z => (![z, 0] : Fin 2 → ℕ)) (by show 128 * k.val + 16 * 0 + 64 = 128 * k.val + 64; omega))) _ (pay_t4_a0 a0 _) hr hl
  · intro r l hr hl
    exact max_load arg1 X a1 _ (k0_off22 k 8#32) (128 * k.val + 80)
      ((k0_off22_eq k 1).trans (congrArg (fun z => (![z, 0] : Fin 2 → ℕ)) (by show 128 * k.val + 16 * 1 + 64 = 128 * k.val + 80; omega))) _ (pay_t4_a1 a1 _) hr hl
  · intro r l hr hl
    exact max_load arg1 X a2 _ (k0_off22 k 16#32) (128 * k.val + 96)
      ((k0_off22_eq k 2).trans (congrArg (fun z => (![z, 0] : Fin 2 → ℕ)) (by show 128 * k.val + 16 * 2 + 64 = 128 * k.val + 96; omega))) _ (pay_t4_a2 a2 _) hr hl
  · intro r l hr hl
    exact max_load arg1 X a3 _ (k0_off22 k 24#32) (128 * k.val + 112)
      ((k0_off22_eq k 3).trans (congrArg (fun z => (![z, 0] : Fin 2 → ℕ)) (by show 128 * k.val + 16 * 3 + 64 = 128 * k.val + 112; omega))) _ (pay_t4_a3 a3 _) hr hl

set_option warn.classDefReducibility false in
/-- The loop over the tokens that quantises rows 64 … 128 of each. -/
@[sl_loop] def loop_t4 (𝒱 : Variants) (c : Dev nD) (bd : Option 𝒱.V) (E : Set ℕ) (i : grid0.Coords) (arg1 : Memref sig .tc .vmem S16384x128 .bf16) (harg1 : arg1.IsWhole) (arg2 : Memref sig .tc .vmem S16x1024x640 .fp8e4m3) (harg2 : arg2.IsWhole) (arg3 : Memref sig .tc .vmem S16x640 .f32) (harg3 : arg3.IsWhole) (arg4 : Memref sig .tc .vmem S16x128 .f32) (harg4 : arg4.IsWhole) (arg5 : Memref sig .tc .vmem S10240x128 .bf16) (harg5 : arg5.IsWhole) (arg6 : Memref sig .tc .vmem S16384x128 .fp8e4m3) (harg6 : arg6.IsWhole) (arg7 : Memref sig .tc .vmem S16x128 .f32) (harg7 : arg7.IsWhole) (arg8 : Memref sig .tc .vmem S8736x128 .fp8e4m3) (harg8 : arg8.IsWhole) (arg9 : Memref sig .tc .vmem S8736x128 .fp8e4m3) (harg9 : arg9.IsWhole) (arg10 : Memref sig .tc .vmem S16x128x1024 .fp8e4m3) (harg10 : arg10.IsWhole) (arg11 : Memref sig .tc .vmem S16x640 .f32) (harg11 : arg11.IsWhole) (arg12 : Memref sig .tc .vmem S16x128 .f32) (harg12 : arg12.IsWhole) (v156 : FVec Ideal S16x128 .f32) (v269_lo v269_hi : FVec Ideal S128x640 .bf16) (v270_lo v270_hi : FVec Ideal S128x128 .bf16) (X : BufTy.Contents (Elt Ideal) arg1.view.ty) (G6 : BufTy.Contents (Elt Ideal) arg6.view.ty) (G8 : BufTy.Contents (Elt Ideal) arg9.view.ty) (init : FVec Ideal S16x128 .bf16 × FVec Ideal S16x128 .bf16 × FVec Ideal S16x128 .bf16 × FVec Ideal S16x128 .bf16) :
    LoopInvTy_k0_t4 (F := Ideal) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 v156 v269_lo v269_hi v270_lo v270_hi init where
  inv k acc := iprop((arg1.view.loc (c : Thread nD τ) ↦[arg1.view.set]{fullShare} X)
    ∗ (∃ f, (arg6.view.loc (c : Thread nD τ) ↦[arg6.view.set]{fullShare} f) ∗ ⌜atEntry k f = atEntry k G6⌝ ∗ ⌜CodesUpTo (at2 (arg1.view.read (Elt Ideal) X)) (at2 v156) 64 128 64 k (at2 (arg6.view.read (Elt Ideal) G6)) (at2 (arg6.view.read (Elt Ideal) f))⌝)
    ∗ (∃ f, (arg9.view.loc (c : Thread nD τ) ↦[arg9.view.set]{fullShare} f) ∗ ⌜atEntry k f = atEntry k G8⌝ ∗ ⌜CodesUpTo (at2 (arg1.view.read (Elt Ideal) X)) (at2 v156) 64 68 0 k (at2 (arg9.view.read (Elt Ideal) G8)) (at2 (arg9.view.read (Elt Ideal) f))⌝)
    ∗ ⌜MaxesUpTo (at2 (arg1.view.read (Elt Ideal) X)) 64 k init acc⌝)
  step k acc := by
    iintro ⟨HR, ⟨%f6, H6, %p6, %h6⟩, ⟨%f8, H8, %p8, %h8⟩, %ha⟩
    iapply (wp_wand_r frame (wpE (defs₀ (F := Ideal)) 𝒱 (c : Thread nD τ) bd) E)
    isplitl [HR H6 H8]
    · iapply (trip_t4 𝒱 c bd i arg1 harg1 arg2 harg2 arg3 harg3 arg4 harg4 arg5 harg5 arg6 harg6 arg7 harg7 arg8 harg8 arg9 harg9 arg10 harg10 arg11 harg11 arg12 harg12 E k v156 v269_lo v269_hi v270_lo v270_hi X f6 f8 acc)
      isplitl [HR]; · iexact HR
      isplitl [H6]; · iexact H6
      iexact H8
    · iintro %_ ⟨HR, ⟨%f6', H6, %h6'⟩, ⟨%f8', H8, %h8'⟩, %ha'⟩
      isplitl [HR]; · iexact HR
      isplitl [H6]
      · iexists f6'; isplitl [H6]; · iexact H6
        isplitr
        · ipureintro; rfl
        · ipureintro; exact h6.succ (.inl rfl) (by decide) h6'
      isplitl [H8]
      · iexists f8'; isplitl [H8]; · iexact H8
        isplitr
        · ipureintro; rfl
        · ipureintro; exact h8.succ (.inr rfl) (by decide) h8'
      ipureintro
      exact ⟨ha.1.succ ha'.1, ha.2.1.succ ha'.2.1, ha.2.2.1.succ ha'.2.2.1, ha.2.2.2.succ ha'.2.2.2⟩

end Cert.KernelIdeal.Val

end
-- ==== Proof.PI.Y.lean ====
/- The stores of the projected rows: two heads to a store, their rows interleaved, at a stride of forty pairs of rows. -/
module

public import proofs.«01_k».proof.Proof.PI.Pure

@[expose] public section

set_option maxRecDepth 16384

noncomputable section

namespace Cert.KernelIdeal.Val

open Cert.KernelIdeal.Gen
open Idealize.ShloMosaic Idealize.ShloMosaic.TcCoe Idealize.ShloMosaic.Tactic

/-! ## One projection -/

/-- A leading axis of one dropped. -/
theorem at3_drop {α : Type} [Zero α] {n m : ℕ} (X : (⟨3, ![1, n, m]⟩ : Shape).Idx → α) (h) {r l : ℕ} (hr : r < n) (hl : l < m) :
    at2 (shapeCast ⟨2, ![n, m]⟩ X h) r l = at3 X 0 r l := by
  rw [at2_mk _ hr hl]
  refine (shapeCast_apply X h _ (fun | ⟨0, _⟩ => ⟨0, Nat.zero_lt_one⟩ | ⟨1, _⟩ => ⟨r, hr⟩ | ⟨2, _⟩ => ⟨l, hl⟩) ?_).trans (at3_of X _ rfl rfl rfl)
  rw [Shape.rowMajor_val_two, Shape.rowMajor_val_three]
  show (0 * n + r) * m + l = r * m + l
  ring

/-- A head's projected tokens: the product of its codes with its weights, scaled. -/
theorem project_at (a : FVec Ideal S1x128x1024 .fp8e4m3) (w : FVec Ideal S1x1024x640 .fp8e4m3) (o : FVec Ideal S1x640 .f32)
    {t n : ℕ} (ht : t < 128) (hn : n < 640) :
    at2 (α := EReal) (k0_pay44 (F := Ideal) a w o) t n
      = (∑ k : Fin 1024, at3 (α := EReal) a 0 t k.val * at3 (α := EReal) w 0 k.val n) * at2 (α := EReal) o 0 n := by
  rw [at2_mk _ ht hn]
  unfold k0_pay44
  show FloatOps.matmul (F := Ideal) dot_S128x1024_S1024x640_S128x640_1_0_0_1_n_n none _ _ (constant S128x640 .f32 0x00000000#32) _ * _ = _
  rw [Ideal.matmul_constant_zero_apply]
  refine congrArg₂ (· * ·) ?_ ?_
  · let e : Fin 1024 ≃ dot_S128x1024_S1024x640_S128x640_1_0_0_1_n_n.contr.Idx :=
      ⟨fun k => fun | ⟨0, _⟩ => k, fun y => y ⟨0, Nat.zero_lt_one⟩, fun k => rfl, fun y => funext fun | ⟨0, _⟩ => rfl⟩
    rw [← Equiv.sum_comp e]
    refine Finset.sum_congr rfl fun k _ => congrArg₂ (· * ·) ?_ ?_
    · rw [← at3_drop a shapeCasts_S1x128x1024_S128x1024 ht k.isLt]
      exact at2_of _ _ rfl rfl
    · rw [← at3_drop w shapeCasts_S1x1024x640_S1024x640 k.isLt hn]
      exact at2_of _ _ rfl rfl
  · refine (broadcastTo_apply o broadcasts_S1x640_S128x640 _ (fun | ⟨0, _⟩ => ⟨0, Nat.zero_lt_one⟩ | ⟨1, _⟩ => ⟨n, hn⟩) ?_).trans (at2_of o _ rfl rfl)
    intro x
    match x with
    | ⟨0, _⟩ => rfl
    | ⟨1, _⟩ => rfl

/-! ## One store -/

section Store
variable {sp : Space} (M : Memref sig .tc sp S10240x128 .bf16) (hM : M.IsWhole)

/-- The rectangle of a store: pairs of rows `k`, `k + 40`, `k + 80`, … -/
def pairs (k : Fin 40) : Rect S5120x2x128 where
  off := ![k.val, 0, 0]
  size := S128x2x128.size
  stride := ![40, 1, 1]
  inb := by revert k; decide
  stride_pos := spos_40_1_1

/-- The block of projected rows by pairs of rows. -/
abbrev paired (hM : M.IsWhole) := M.reshape S5120x2x128 reshapes_S10240x128_S5120x2x128.1 reshapes_S10240x128_S5120x2x128.2 hM.contiguous

/-- Row `2 q + p` of the block is row `p` of pair `q`. -/
theorem at2_paired (f : BufTy.Contents (Elt Ideal) M.view.ty) {r l : ℕ} (hr : r < 10240) (hl : l < 128) :
    at2 (M.view.read (Elt Ideal) f) r l = at3 ((paired M hM).view.read (Elt Ideal) f) (r / 2) (r % 2) l := by
  have h := at3_split (n := 5120) (m := 2) (p := 128) (M.view.read (Elt Ideal) f) reshapes_S10240x128_S5120x2x128.1
    (show r / 2 < 5120 by omega) (show r % 2 < 2 by omega) hl
  rw [show 2 * (r / 2) + r % 2 = r by omega] at h
  exact h.symm

/-- The block of projected rows after a store of the pairs `k`, `k + 40`, … -/
abbrev pairStore (f : BufTy.Contents (Elt Ideal) M.view.ty) (k : Fin 40) (w : FVec Ideal S128x2x128 .bf16) : BufTy.Contents (Elt Ideal) M.view.ty :=
  View.write (Elt Ideal) ((paired M hM).access (pairs k)) f w Finset.univ

/-- What the block of projected rows holds after a store of the pairs `k`, `k + 40`, …: the stored rows there, what was
    there before elsewhere. -/
theorem wstore_at (f : BufTy.Contents (Elt Ideal) M.view.ty) (k : Fin 40) (w : FVec Ideal S128x2x128 .bf16)
    {r l : ℕ} (hr : r < 10240) (hl : l < 128) :
    at2 (M.view.read (Elt Ideal) (pairStore M hM f k w)) r l
      = if (r / 2) % 40 = k.val then at3 w (r / 80) (r % 2) l else at2 (M.view.read (Elt Ideal) f) r l := by
  rw [at2_paired M hM _ hr hl, at2_paired M hM _ hr hl]
  split_ifs with hin
  · have a0 : r / 80 < 128 := by omega
    have a1 : r % 2 < 2 := by omega
    rw [at3_mk _ (by omega) a1 hl, at3_mk w a0 a1 hl]
    have key := View.read_writes_cons_emb (v := (paired M hM).view) (f := f) (pairs k) w []
      (fun | ⟨0, _⟩ => ⟨r / 80, a0⟩ | ⟨1, _⟩ => ⟨r % 2, a1⟩ | ⟨2, _⟩ => ⟨l, hl⟩)
    refine Eq.trans (congrArg _ ?_) (key.trans (congrArg w (funext fun x => by
      match x with | ⟨0, _⟩ => rfl | ⟨1, _⟩ => rfl | ⟨2, _⟩ => rfl)))
    refine funext fun x => Fin.ext ?_
    match x with
    | ⟨0, _⟩ => show r / 2 = k.val + 40 * (r / 80); omega
    | ⟨1, _⟩ => show r % 2 = 0 + 1 * (r % 2); omega
    | ⟨2, _⟩ => show l = 0 + 1 * l; omega
  · rw [at3_mk _ (by omega) (by omega) hl, at3_mk _ (by omega) (by omega) hl]
    refine View.read_slice_write_of_not_mem _ _ _ _ ?_
    intro hm
    obtain ⟨y, -, hy⟩ := Finset.mem_map.mp hm
    have e0 := congrArg Fin.val (congrFun hy 0)
    change k.val + 40 * (y 0).val = r / 2 at e0
    have := k.isLt
    omega

/-- Column tile `c` of two heads' projected tokens, their rows interleaved. -/
def tile (c : Fin 5) (P Q : FVec Ideal S128x640 .bf16) : FVec Ideal S128x2x128 .bf16 :=
  interleaveRows S128x2x128
    (shapeCast S128x1x128 (extractStridedSlice S128x128 ![0, 128 * c.val] P (by revert c; decide)) shapeCasts_S128x128_S128x1x128)
    (shapeCast S128x1x128 (extractStridedSlice S128x128 ![0, 128 * c.val] Q (by revert c; decide)) shapeCasts_S128x128_S128x1x128)
    bitcasts_S128x2x128_w16_S128x1x128_w32

/-- An output column of two packed products, read at an index: the product of that parity. -/
theorem tile_at (c : Fin 5) (P Q : FVec Ideal S128x640 .bf16) {t p l : ℕ} (ht : t < 128) (hp : p < 2) (hl : l < 128) :
    at3 (tile c P Q) t p l = at2 (if p = 0 then P else Q) t (128 * c.val + l) := by
  rw [at3_mk _ ht hp hl]
  unfold tile
  have key : ∀ R : FVec Ideal S128x640 .bf16, ∀ h h' j, (j 0).val = t → (j 1).val = 0 → (j 2).val = l →
      shapeCast S128x1x128 (extractStridedSlice S128x128 ![0, 128 * c.val] R h) h' j = at2 R t (128 * c.val + l) := by
    intro R h h' j e0 e1 e2
    have hs := at3_split (n := 128) (m := 1) (p := 128) (extractStridedSlice S128x128 ![0, 128 * c.val] R h) h' ht (show 0 < 1 by omega) hl
    rw [← at3_of _ j e0 e1 e2] at hs
    rw [hs, at2_mk _ (by omega) hl]
    exact at2_of R _ (show 0 + (1 * t + 0) = t by omega) rfl
  unfold interleaveRows
  dsimp only
  split_ifs with h1 h2 h2
  · exact key P _ _ _ rfl (show p / 2 = 0 by omega) rfl
  · exact absurd (show p % 2 = 0 from h1) (by omega)
  · exact absurd (show p % 2 = 0 by omega) h1
  · exact key Q _ _ _ rfl (show p / 2 = 0 by omega) rfl

/-! ## All stores of a row tile

Twenty stores cover the eight heads of a row tile: for each pair of heads, one per column tile. -/

variable {sp2 sp10 sp11 : Space} (A : Memref sig .tc sp10 S16x128x1024 .fp8e4m3) (g : BufTy.Contents (Elt Ideal) A.view.ty)
  (B : Memref sig .tc sp2 S16x1024x640 .fp8e4m3) (w : BufTy.Contents (Elt Ideal) B.view.ty)
  (O : Memref sig .tc sp11 S16x640 .f32) (s : BufTy.Contents (Elt Ideal) O.view.ty)

/-- Head `h`'s projected tokens, from the buffers of codes, weights and scales. -/
def headOut (h : Fin 16) : FVec Ideal S128x640 .bf16 :=
  k0_pay44 (A.view.readAt (Elt Ideal) (Rect.unit (s := S16x128x1024) ![h.val, 0, 0] S1x128x1024.size (by revert h; decide)).toLoadRect g)
    (B.view.readAt (Elt Ideal) (Rect.unit (s := S16x1024x640) ![h.val, 0, 0] S1x1024x640.size (by revert h; decide)).toLoadRect w)
    (O.view.readAt (Elt Ideal) (Rect.unit (s := S16x640) ![h.val, 0] S1x640.size (by revert h; decide)).toLoadRect s)

/-- A head's product with the weights, scaled, read at an index. -/
theorem headOut_at {h : ℕ} (hh : h < 16) {t n : ℕ} (ht : t < 128) (hn : n < 640) :
    at2 (α := EReal) (headOut A g B w O s ⟨h, hh⟩) t n
      = (∑ k : Fin 1024, at3 (α := EReal) (A.view.read (Elt Ideal) g) h t k.val * at3 (α := EReal) (B.view.read (Elt Ideal) w) h k.val n)
          * at2 (α := EReal) (O.view.read (Elt Ideal) s) h n := by
  unfold headOut
  rw [project_at _ _ _ ht hn]
  refine congrArg₂ (· * ·) (Finset.sum_congr rfl fun k _ => congrArg₂ (· * ·) ?_ ?_) ?_
  · exact (at3_load A g _ h 0 0 rfl _ (n' := 1) Nat.zero_lt_one ht k.isLt).trans (by simp only [Nat.add_zero, Nat.zero_add])
  · exact (at3_load B w _ h 0 0 rfl _ (n' := 1) Nat.zero_lt_one k.isLt hn).trans (by simp only [Nat.add_zero, Nat.zero_add])
  · exact (at2_load O s _ h 0 rfl _ (n' := 1) Nat.zero_lt_one hn).trans (by simp only [Nat.add_zero, Nat.zero_add])

/-- Store `n` of the twenty of row tile `rt`: pair of heads `n / 5`, column tile `n % 5`. -/
def stored (rt : Fin 2) (f : BufTy.Contents (Elt Ideal) M.view.ty) : ℕ → BufTy.Contents (Elt Ideal) M.view.ty
  | 0 => f
  | n + 1 => pairStore M hM (stored rt f n) ⟨20 * rt.val + 4 * (n % 5) + n / 5 % 4, by omega⟩
      (tile ⟨n % 5, by omega⟩ (headOut A g B w O s ⟨8 * rt.val + 2 * (n / 5 % 4), by omega⟩)
        (headOut A g B w O s ⟨8 * rt.val + 2 * (n / 5 % 4) + 1, by omega⟩))

/-- After `n` of them: a row of pair `20 rt + 4 c + j` (modulo 40) with `5 j + c < n` is the projected token of its head. -/
theorem stored_at (rt : Fin 2) (f : BufTy.Contents (Elt Ideal) M.view.ty) (n : ℕ) (hn : n ≤ 20) {r l : ℕ} (hr : r < 10240) (hl : l < 128) :
    at2 (α := EReal) (M.view.read (Elt Ideal) (stored M hM A g B w O s rt f n)) r l
      = if r / 40 % 2 = rt.val ∧ 5 * (r / 2 % 4) + r / 8 % 5 < n
          then at2 (α := EReal) (headOut A g B w O s ⟨8 * rt.val + r % 8, by omega⟩) (r / 80) (128 * (r / 8 % 5) + l)
          else at2 (α := EReal) (M.view.read (Elt Ideal) f) r l := by
  obtain ⟨t, a, c, j, p, rfl, ht, ha, hc, hj, hp⟩ : ∃ t a c j p, r = 80 * t + 40 * a + 8 * c + 2 * j + p ∧ t < 128 ∧ a < 2 ∧ c < 5 ∧ j < 4 ∧ p < 2 :=
    ⟨r / 80, r / 40 % 2, r / 8 % 5, r / 2 % 4, r % 2, by omega, by omega, by omega, by omega, by omega, by omega⟩
  have q1 : (80 * t + 40 * a + 8 * c + 2 * j + p) / 40 % 2 = a := by omega
  have q2 : (80 * t + 40 * a + 8 * c + 2 * j + p) / 2 % 4 = j := by omega
  have q3 : (80 * t + 40 * a + 8 * c + 2 * j + p) / 8 % 5 = c := by omega
  have q4 : (80 * t + 40 * a + 8 * c + 2 * j + p) % 8 = 2 * j + p := by omega
  have q5 : (80 * t + 40 * a + 8 * c + 2 * j + p) / 80 = t := by omega
  have q6 : (80 * t + 40 * a + 8 * c + 2 * j + p) / 2 % 40 = 20 * a + 4 * c + j := by omega
  have q7 : (80 * t + 40 * a + 8 * c + 2 * j + p) % 2 = p := by omega
  induction n with
  | zero => rw [if_neg (by omega)]; rfl
  | succ n ih =>
    have ih := ih (by omega)
    show at2 (α := EReal) (M.view.read (Elt Ideal) (pairStore M hM (stored M hM A g B w O s rt f n) _ _)) _ l = _
    rw [wstore_at M hM _ _ _ hr hl, tile_at _ _ _ (by omega) (by omega) hl, ih]
    simp only [q1, q2, q3, q4, q5, q6, q7]
    obtain ⟨y, x, rfl, hy, hx⟩ : ∃ y x, n = 5 * y + x ∧ y < 4 ∧ x < 5 := ⟨n / 5, n % 5, by omega, by omega, by omega⟩
    have e1 : (5 * y + x) % 5 = x := by omega
    have e2 : (5 * y + x) / 5 % 4 = y := by omega
    have hrt := rt.isLt
    simp only [e1, e2]
    by_cases h1 : 20 * a + 4 * c + j = 20 * rt.val + 4 * x + y
    · obtain ⟨rfl, rfl, rfl⟩ : a = rt.val ∧ c = x ∧ j = y := by omega
      rw [if_pos h1, if_pos (show rt.val = rt.val ∧ 5 * j + c < 5 * j + c + 1 from ⟨rfl, by omega⟩)]
      by_cases hp0 : p = 0
      · subst hp0; rw [if_pos rfl]; rfl
      · obtain rfl : p = 1 := by omega
        rw [if_neg hp0]; rfl
    · rw [if_neg h1]
      by_cases h2 : a = rt.val ∧ 5 * j + c < 5 * y + x
      · rw [if_pos h2, if_pos ⟨h2.1, by omega⟩]
      · rw [if_neg h2, if_neg (by omega)]

end Store
end Cert.KernelIdeal.Val
end
-- ==== Proof.PI.Step.lean ====
/- What one step of the kernel computes, from what its loops leave. -/
module

public import proofs.«01_k».proof.Proof.PI.Y

@[expose] public section

set_option maxRecDepth 16384

noncomputable section

namespace Cert.KernelIdeal.Val

open Cert.KernelIdeal.Gen
open Idealize.ShloMosaic Idealize.ShloMosaic.TcCoe Idealize.ShloMosaic.Tactic

/-! ## The values of a step, and the state between steps -/

/-- The reciprocal of the scale of row `r` (a head) at lane `l`. -/
def rcp (XS : ℕ → ℕ → EReal) (r l : ℕ) : EReal := Ideal.div (Scalar.ofBits (F := Ideal) .f32 0x3F800000#32) (XS r l)

/-- The code of row `r` of a block of activations: its head is eight times its row tile plus its row in the tile of eight. -/
def code (X XS : ℕ → ℕ → EReal) (r l : ℕ) : EReal := qz (X r l) (rcp XS (8 * (r % 128 / 64) + r % 8) l)

/-- The scratch of codes holds the second half of each token's rows of codes `C`. -/
def HalfOk (V C : ℕ → ℕ → EReal) : Prop := ∀ t j l, t < 128 → j < 64 → l < 128 → V (68 * t + j) l = C (128 * t + 64 + j) l

/-- The buffer of codes by head holds the first eight heads' codes of `C`. -/
def HeadsOk (V : ℕ → ℕ → ℕ → EReal) (C : ℕ → ℕ → EReal) : Prop :=
  ∀ a b q, a < 8 → b < 128 → q < 1024 → V a b q = C (128 * b + 8 * (q / 128) + a) (q % 128)

/-- The buffer of output scales holds the weights' scales times the activations'. -/
def ScalesOk (V WS XS : ℕ → ℕ → EReal) : Prop := ∀ h n, h < 16 → n < 640 → V h n = WS h n * XS h 0

/-- The running maximum is the least bound of zero and of what satisfies `B`. -/
def MaxOk (V : ℕ → ℕ → EReal) (B : ℕ → ℕ → EReal → Prop) : Prop := ∀ h l, h < 16 → l < 128 → ∀ z, V h l ≤ z ↔ 0 ≤ z ∧ B h l z

/-- The bounds that a block of activations adds. -/
def Bound (X : ℕ → ℕ → EReal) (h l : ℕ) (z : EReal) : Prop :=
  ∀ t c, t < 128 → c < 8 → ab (X (128 * t + 64 * (h / 8) + 8 * c + h % 8) l) ≤ z

/-- The block of projected tokens of the codes `C`. -/
def OutOk (V C : ℕ → ℕ → EReal) (W : ℕ → ℕ → ℕ → EReal) (WS XS : ℕ → ℕ → EReal) : Prop :=
  ∀ r l, r < 10240 → l < 128 → V r l
    = (∑ k : Fin 1024, C (128 * (r / 80) + 64 * (r / 40 % 2) + 8 * (k.val / 128) + r % 8) (k.val % 128)
          * W (8 * (r / 40 % 2) + r % 8) k.val (128 * (r / 8 % 5) + l))
        * (WS (8 * (r / 40 % 2) + r % 8) (128 * (r / 8 % 5) + l) * XS (8 * (r / 40 % 2) + r % 8) 0)

/-- The block of codes. -/
def CodesOk (V X XS : ℕ → ℕ → EReal) : Prop := ∀ r l, r < 16384 → l < 128 → V r l = code X XS r l

/-! ## The pure parts -/

/-- The reciprocal scales of eight heads, twice. -/
theorem rcp_at {sp : Space} (M : Memref sig .tc sp S16x128 .f32) (f : BufTy.Contents (Elt Ideal) M.view.ty) (off : Fin 2 → ℕ) (o : ℕ)
    (ho : off = ![o, 0]) (b) {j l : ℕ} (hj : j < 16) (hl : l < 128) :
    at2 (α := EReal) (k0_pay43 (F := Ideal) (M.view.readAt (Elt Ideal) (Rect.unit (s := S16x128) off S8x128.size b).toLoadRect f)) j l
      = rcp (at2 (α := EReal) (M.view.read (Elt Ideal) f)) (o + j % 8) l := by
  rw [at2_mk _ hj hl]
  unfold k0_pay43
  dsimp only
  rw [cast_id]
  refine (concatenate_pair_apply (α := EReal) (0 : Fin S16x128.rank) _ _ concatenates_S8x128_S8x128_S16x128_d0 _).trans ?_
  split_ifs with h
  · have hj8 : j < 8 := h
    refine congrArg (Ideal.div _) ((at2_of _ _ rfl rfl).trans ((at2_load M f off o 0 ho b hj8 hl).trans ?_))
    rw [Nat.zero_add, Nat.mod_eq_of_lt hj8]
  · have hj8 : ¬ j < 8 := h
    refine congrArg (Ideal.div _) ((at2_of _ _ rfl rfl).trans ((at2_load M f off o 0 ho b (show j - 8 < 8 by omega) hl).trans ?_))
    rw [Nat.zero_add, show j % 8 = j - 8 by omega]

/-- The largest magnitudes of a token's 64 rows, by head. -/
theorem maxes_le {X : ℕ → ℕ → EReal} {o : ℕ} {a : FVec Ideal S16x128 .bf16 × FVec Ideal S16x128 .bf16 × FVec Ideal S16x128 .bf16 × FVec Ideal S16x128 .bf16}
    (h : MaxesUpTo X o 128 (k0_pay79, k0_pay79, k0_pay79, k0_pay79) a) (v : FVec Ideal S8x128 .f32) {r l : ℕ} (hr : r < 8) (hl : l < 128) (z : EReal) :
    at2 (α := EReal) (k0_pay85 (F := Ideal) (k0_pay84 a.1 a.2.1 a.2.2.1 a.2.2.2) v) r l ≤ z
      ↔ at2 (α := EReal) v r l ≤ z ∧ 0 ≤ z ∧ ∀ t c, t < 128 → c < 8 → ab (X (128 * t + o + 8 * c + r) l) ≤ z := by
  have e : at2 (α := EReal) (k0_pay85 (F := Ideal) (k0_pay84 a.1 a.2.1 a.2.2.1 a.2.2.2) v) r l
      = max (at2 (α := EReal) v r l)
          (max (max (max (at2 (α := EReal) a.1 r l) (at2 (α := EReal) a.2.1 r l)) (max (at2 (α := EReal) a.2.2.1 r l) (at2 (α := EReal) a.2.2.2 r l)))
            (max (max (at2 (α := EReal) a.1 (8 + r) l) (at2 (α := EReal) a.2.1 (8 + r) l))
              (max (at2 (α := EReal) a.2.2.1 (8 + r) l) (at2 (α := EReal) a.2.2.2 (8 + r) l)))) := by
    unfold k0_pay85
    dsimp only
    rw [cast_id, at2_mk _ hr hl]
    have lo : ∀ w : FVec Ideal S16x128 .bf16, ∀ j : S16x128.Idx, (j 0).val = 0 + r → (j 1).val = 0 + l → w j = at2 (α := EReal) w r l :=
      fun w j h0 h1 => at2_of w j (h0.trans (Nat.zero_add r)) (h1.trans (Nat.zero_add l))
    have hi : ∀ w : FVec Ideal S16x128 .bf16, ∀ j : S16x128.Idx, (j 0).val = 8 + r → (j 1).val = 0 + l → w j = at2 (α := EReal) w (8 + r) l :=
      fun w j h0 h1 => at2_of w j h0 (h1.trans (Nat.zero_add l))
    exact congrArg₂ max (at2_of v _ rfl rfl)
      (congrArg₂ max
        (congrArg₂ max (congrArg₂ max (lo _ _ rfl rfl) (lo _ _ rfl rfl)) (congrArg₂ max (lo _ _ rfl rfl) (lo _ _ rfl rfl)))
        (congrArg₂ max (congrArg₂ max (hi _ _ rfl rfl) (hi _ _ rfl rfl)) (congrArg₂ max (hi _ _ rfl rfl) (hi _ _ rfl rfl))))
  have z0 : ∀ r l, r < 16 → l < 128 → at2 (α := EReal) (k0_pay79 (F := Ideal)) r l = 0 := by
    intro r l hr hl
    rw [at2_mk _ hr hl]
    show Ideal.ofBits .bf16 0x0000#16 = 0
    simp [Ideal.ofBits, Ideal.ieee]
  obtain ⟨h0, h1, h2, h3⟩ := h
  have s : ∀ {o' : ℕ} {b : FVec Ideal S16x128 .bf16}, MaxUpTo X o' 128 (at2 (k0_pay79 (F := Ideal))) (at2 b) → ∀ r, r < 16 →
      (at2 (α := EReal) b r l ≤ z ↔ 0 ≤ z ∧ ∀ t, t < 128 → ab (X (128 * t + o' + r) l) ≤ z) := by
    intro o' b hb r hr
    have := hb r l hr hl z
    rw [z0 r l hr hl] at this
    exact this
  rw [e]
  simp only [max_le_iff, s h0 r (by omega), s h1 r (by omega), s h2 r (by omega), s h3 r (by omega),
    s h0 (8 + r) (by omega), s h1 (8 + r) (by omega), s h2 (8 + r) (by omega), s h3 (8 + r) (by omega)]
  constructor
  · rintro ⟨hv, ⟨⟨⟨hz, g0⟩, -, g2⟩, ⟨-, g4⟩, -, g6⟩, ⟨⟨-, g1⟩, -, g3⟩, ⟨-, g5⟩, -, g7⟩
    refine ⟨hv, hz, fun t c ht hc => ?_⟩
    obtain rfl | rfl | rfl | rfl | rfl | rfl | rfl | rfl : c = 0 ∨ c = 1 ∨ c = 2 ∨ c = 3 ∨ c = 4 ∨ c = 5 ∨ c = 6 ∨ c = 7 := by omega
    · exact g0 t ht
    · exact (congrArg (fun i => ab (X i l)) (by omega)).trans_le (g1 t ht)
    · exact g2 t ht
    · exact (congrArg (fun i => ab (X i l)) (by omega)).trans_le (g3 t ht)
    · exact g4 t ht
    · exact (congrArg (fun i => ab (X i l)) (by omega)).trans_le (g5 t ht)
    · exact g6 t ht
    · exact (congrArg (fun i => ab (X i l)) (by omega)).trans_le (g7 t ht)
  · rintro ⟨hv, hz, g⟩
    have k : ∀ c o' r', c < 8 → o' + r' = o + 8 * c + r → (0 ≤ z ∧ ∀ t, t < 128 → ab (X (128 * t + o' + r') l) ≤ z) := by
      intro c o' r' hc he
      refine ⟨hz, fun t ht => ?_⟩
      exact (congrArg (fun i => ab (X i l)) (by omega)).trans_le (g t c ht hc)
    exact ⟨hv, ⟨⟨k 0 _ _ (by omega) (by omega), k 2 _ _ (by omega) (by omega)⟩, k 4 _ _ (by omega) (by omega), k 6 _ _ (by omega) (by omega)⟩,
      ⟨k 1 _ _ (by omega) (by omega), k 3 _ _ (by omega) (by omega)⟩, k 5 _ _ (by omega) (by omega), k 7 _ _ (by omega) (by omega)⟩

/-- The last step's result: the largest of a head's lanes. -/
theorem lanes_le (v : FVec Ideal S16x128 .f32) {h l : ℕ} (hh : h < 16) (hl : l < 128) (z : EReal) :
    at2 (α := EReal) (k0_pay2 (F := Ideal) v) h l ≤ z ↔ ∀ l', l' < 128 → at2 (α := EReal) v h l' ≤ z := by
  have e : at2 (α := EReal) (k0_pay2 (F := Ideal) v) h l
      = (Finset.univ : Finset (Fin (S16x128.size 1))).fold max (FloatOps.ofBits (F := Ideal) .f32 0xFF800000#32)
          (v ∘ reduces_S16x128_S16.lift (fun | ⟨0, _⟩ => ⟨h, hh⟩)) := by
    refine Eq.trans ?_ (Ideal.multiReduction_maximumf_single v 0xFF800000#32 reduces_S16x128_S16 (.inl rfl) rfl (fun | ⟨0, _⟩ => ⟨h, hh⟩))
    rw [at2_mk _ hh hl]
    unfold k0_pay2
    dsimp only
    rw [cast_id]
    refine (broadcastTo_apply _ broadcasts_S16x1_S16x128 _ (fun | ⟨0, _⟩ => ⟨h, hh⟩ | ⟨1, _⟩ => ⟨0, Nat.zero_lt_one⟩) ?_).trans
      (shapeCast_apply _ shapeCasts_S16_S16x1 _ (fun | ⟨0, _⟩ => ⟨h, hh⟩) ?_)
    · intro x
      match x with
      | ⟨0, _⟩ => rfl
      | ⟨1, _⟩ => rfl
    · rw [Shape.rowMajor_val_one, Shape.rowMajor_val_two]
      show h = h * 1 + 0
      omega
  have eb : FloatOps.ofBits (F := Ideal) .f32 0xFF800000#32 = (⊥ : EReal) := by
    show Ideal.ofBits .f32 0xFF800000#32 = ⊥
    simp [Ideal.ofBits, Ideal.ieee]
  rw [e, Finset.fold_max_le, eb]
  constructor
  · rintro ⟨-, g⟩ l' hl'
    refine Eq.trans_le ?_ (g ⟨l', hl'⟩ (Finset.mem_univ _))
    exact (at2_of v (reduces_S16x128_S16.lift (fun | ⟨0, _⟩ => ⟨h, hh⟩) ⟨l', hl'⟩) rfl rfl).symm
  · intro g
    refine ⟨bot_le, fun x _ => ?_⟩
    refine Eq.trans_le ?_ (g x.val x.isLt)
    exact at2_of v _ rfl rfl

/-- The output scales of the first step. -/
theorem scales_at (a : FVec Ideal S16x640 .f32) (b : FVec Ideal S16x1 .f32) {h n : ℕ} (hh : h < 16) (hn : n < 640) :
    at2 (α := EReal) (k0_pay39 (F := Ideal) a b) h n = at2 (α := EReal) a h n * at2 (α := EReal) b h 0 := by
  unfold k0_pay39
  dsimp only
  rw [cast_id, cast_id, at2_mk _ hh hn, at2_mk a hh hn]
  refine congrArg (_ * ·) ?_
  refine (broadcastTo_apply b broadcasts_S16x1_S16x640 _ (fun | ⟨0, _⟩ => ⟨h, hh⟩ | ⟨1, _⟩ => ⟨0, Nat.zero_lt_one⟩) ?_).trans (at2_of b _ rfl rfl)
  intro x
  match x with
  | ⟨0, _⟩ => rfl
  | ⟨1, _⟩ => rfl

/-! ## What the loops of a step leave, together -/

section Together
variable {X XS v v' : ℕ → ℕ → EReal}

/-- The block of codes, both halves of each token written. -/
theorem codes_ok (hv : ∀ j l, j < 16 → l < 128 → v j l = rcp XS (0 + j % 8) l) (hv' : ∀ j l, j < 16 → l < 128 → v' j l = rcp XS (8 + j % 8) l)
    {G f f' : ℕ → ℕ → EReal} (h : CodesUpTo X v 0 128 0 128 G f) (h' : CodesUpTo X v' 64 128 64 128 f f') : CodesOk f' X XS := by
  intro r l hr hl
  unfold code
  rw [h' r l]
  split_ifs with h1
  · rw [hv' _ _ (by omega) hl]
    exact congrArg₂ qz (congrArg (X · l) (by omega)) (congrArg (rcp XS · l) (by omega))
  · rw [h r l, if_pos (by omega), hv _ _ (by omega) hl]
    exact congrArg₂ qz (congrArg (X · l) (by omega)) (congrArg (rcp XS · l) (by omega))

/-- The scratch of the first half of each token's codes. -/
theorem first_half (hv : ∀ j l, j < 16 → l < 128 → v j l = rcp XS (0 + j % 8) l) {G f : ℕ → ℕ → EReal} (h : CodesUpTo X v 0 68 0 128 G f)
    {t j l : ℕ} (ht : t < 128) (hj : j < 64) (hl : l < 128) : f (68 * t + j) l = code X XS (128 * t + j) l := by
  have e1 : (68 * t + j) / 68 = t := by omega
  have e2 : (68 * t + j) % 68 = j := by omega
  unfold code
  rw [h, e1, e2, if_pos (by omega), hv _ _ (by omega) hl]
  exact congrArg₂ qz (congrArg (X · l) (by omega)) (congrArg (rcp XS · l) (by omega))

/-- The scratch of the second half of each token's codes. -/
theorem half_ok (hv' : ∀ j l, j < 16 → l < 128 → v' j l = rcp XS (8 + j % 8) l) {G f : ℕ → ℕ → EReal} (h : CodesUpTo X v' 64 68 0 128 G f) :
    HalfOk f (code X XS) := by
  intro t j l ht hj hl
  have e1 : (68 * t + j) / 68 = t := by omega
  have e2 : (68 * t + j) % 68 = j := by omega
  unfold code
  rw [h, e1, e2, if_pos (by omega), hv' _ _ (by omega) hl]
  exact congrArg₂ qz (congrArg (X · l) (by omega)) (congrArg (rcp XS · l) (by omega))

/-- The first eight heads' codes, laid out by head. -/
theorem heads_ok {V C : ℕ → ℕ → EReal} (hs : ∀ t j l, t < 128 → j < 64 → l < 128 → V (68 * t + j) l = C (128 * t + j) l)
    {G f : ℕ → ℕ → ℕ → EReal} (h : SplitUpTo V 0 4 G f) : HeadsOk f C := by
  intro a b q ha hb hq
  rw [h, if_pos (by omega)]
  have := hs b (8 * (q / 128) + (a - 0)) (q % 128) hb (by omega) (by omega)
  rw [show 68 * b + 8 * (q / 128) + (a - 0) = 68 * b + (8 * (q / 128) + (a - 0)) by omega, this]
  exact congrArg (C · _) (by omega)

end Together

/-- The block of projected tokens of the previous block's codes. -/
theorem out_ok {sp sp2 sp10 sp11 : Space} (M : Memref sig .tc sp S10240x128 .bf16) (hM : M.IsWhole)
    (A : Memref sig .tc sp10 S16x128x1024 .fp8e4m3) (g g' : BufTy.Contents (Elt Ideal) A.view.ty)
    (B : Memref sig .tc sp2 S16x1024x640 .fp8e4m3) (w : BufTy.Contents (Elt Ideal) B.view.ty)
    (O : Memref sig .tc sp11 S16x640 .f32) (s : BufTy.Contents (Elt Ideal) O.view.ty)
    {V C WS XS : ℕ → ℕ → EReal} (hV : HalfOk V C) (hg : HeadsOk (at3 (α := EReal) (A.view.read (Elt Ideal) g)) C)
    (hg' : SplitUpTo V 8 4 (at3 (α := EReal) (A.view.read (Elt Ideal) g)) (at3 (α := EReal) (A.view.read (Elt Ideal) g')))
    (hs : ScalesOk (at2 (α := EReal) (O.view.read (Elt Ideal) s)) WS XS) (f : BufTy.Contents (Elt Ideal) M.view.ty) :
    OutOk (at2 (α := EReal) (M.view.read (Elt Ideal) (stored M hM A g' B w O s 1 (stored M hM A g B w O s 0 f 20) 20))) C
      (at3 (α := EReal) (B.view.read (Elt Ideal) w)) WS XS := by
  intro r l hr hl
  rw [stored_at M hM A g' B w O s 1 _ 20 (by omega) hr hl]
  by_cases h1 : r / 40 % 2 = 1
  · rw [if_pos ⟨h1, by omega⟩, headOut_at A g' B w O s (by show 8 * 1 + r % 8 < 16; omega) (by omega) (by omega), h1]
    refine congrArg₂ (· * ·) (Finset.sum_congr rfl fun k _ => congrArg₂ (· * ·) ?_ rfl) (hs _ _ (by omega) (by omega))
    have hk := k.isLt
    show at3 (α := EReal) (A.view.read (Elt Ideal) g') (8 * 1 + r % 8) (r / 80) k.val = _
    rw [hg', if_pos (by omega), show 68 * (r / 80) + 8 * (k.val / 128) + (8 * 1 + r % 8 - 8) = 68 * (r / 80) + (8 * (k.val / 128) + r % 8) by omega,
      hV (r / 80) _ _ (by omega) (by omega) (by omega)]
    exact congrArg (C · _) (by omega)
  · have h0 : r / 40 % 2 = 0 := by omega
    rw [if_neg (fun h => h1 h.1), stored_at M hM A g B w O s 0 _ 20 (by omega) hr hl, if_pos ⟨h0, by omega⟩,
      headOut_at A g B w O s (by show 8 * 0 + r % 8 < 16; omega) (by omega) (by omega), h0]
    refine congrArg₂ (· * ·) (Finset.sum_congr rfl fun k _ => congrArg₂ (· * ·) ?_ rfl) (hs _ _ (by omega) (by omega))
    have hk := k.isLt
    show at3 (α := EReal) (A.view.read (Elt Ideal) g) (8 * 0 + r % 8) (r / 80) k.val = _
    rw [hg _ _ _ (by omega) (by omega) (by omega)]
    exact congrArg (C · _) (by omega)

/-- The running maximum after both updates. -/
theorem max_ok {sp : Space} (M : Memref sig .tc sp S16x128 .f32) (f f' : BufTy.Contents (Elt Ideal) M.view.ty)
    {X : ℕ → ℕ → EReal} {B : ℕ → ℕ → EReal → Prop} (hf : MaxOk (at2 (α := EReal) (M.view.read (Elt Ideal) f)) B)
    {a a' : FVec Ideal S16x128 .bf16 × FVec Ideal S16x128 .bf16 × FVec Ideal S16x128 .bf16 × FVec Ideal S16x128 .bf16}
    (h : MaxesUpTo X 0 128 (k0_pay79, k0_pay79, k0_pay79, k0_pay79) a) (h' : MaxesUpTo X 64 128 (k0_pay79, k0_pay79, k0_pay79, k0_pay79) a')
    (b0 b1 c0 c1) :
    MaxOk (at2 (α := EReal) (M.view.read (Elt Ideal) (M.view.writes (Elt Ideal) f'
      [⟨Rect.unit (s := S16x128) ![8, 0] S8x128.size b0, k0_pay85 (F := Ideal) (k0_pay84 a'.1 a'.2.1 a'.2.2.1 a'.2.2.2)
          (M.view.readAt (Elt Ideal) (Rect.unit (s := S16x128) ![8, 0] S8x128.size c0).toLoadRect f)⟩,
       ⟨Rect.unit (s := S16x128) ![0, 0] S8x128.size b1, k0_pay85 (F := Ideal) (k0_pay84 a.1 a.2.1 a.2.2.1 a.2.2.2)
          (M.view.readAt (Elt Ideal) (Rect.unit (s := S16x128) ![0, 0] S8x128.size c1).toLoadRect f)⟩])))
      (fun h l z => B h l z ∧ Bound X h l z) := by
  intro r l hr hl z
  rw [at2_writes_cons M f' ![8, 0] 8 0 rfl, at2_writes_cons M f' ![0, 0] 0 0 rfl]
  by_cases h8 : 8 ≤ r
  · rw [if_pos (by omega)]
    refine (maxes_le h' _ (by omega) (by omega) z).trans ?_
    rw [show at2 (α := EReal) (M.view.readAt (Elt Ideal) (Rect.unit (s := S16x128) ![8, 0] S8x128.size c0).toLoadRect f) (r - 8) (l - 0)
      = at2 (α := EReal) (M.view.read (Elt Ideal) f) (8 + (r - 8)) (0 + (l - 0)) from at2_load M f _ 8 0 rfl _ (by omega) (by omega),
      show 8 + (r - 8) = r by omega, show 0 + (l - 0) = l by omega, show l - 0 = l by omega, hf r l hr hl z]
    unfold Bound
    constructor
    · rintro ⟨⟨g1, g2⟩, -, g3⟩
      exact ⟨g1, g2, fun t c ht hc => (congrArg (fun i => ab (X i l)) (by omega)).trans_le (g3 t c ht hc)⟩
    · rintro ⟨g1, g2, g3⟩
      exact ⟨⟨g1, g2⟩, g1, fun t c ht hc => (congrArg (fun i => ab (X i l)) (by omega)).trans_le (g3 t c ht hc)⟩
  · rw [if_neg (by omega), if_pos (by omega)]
    refine (maxes_le h _ (by omega) (by omega) z).trans ?_
    rw [show at2 (α := EReal) (M.view.readAt (Elt Ideal) (Rect.unit (s := S16x128) ![0, 0] S8x128.size c1).toLoadRect f) (r - 0) (l - 0)
      = at2 (α := EReal) (M.view.read (Elt Ideal) f) (0 + (r - 0)) (0 + (l - 0)) from at2_load M f _ 0 0 rfl _ (by omega) (by omega),
      show 0 + (r - 0) = r by omega, show 0 + (l - 0) = l by omega, show l - 0 = l by omega, hf r l hr hl z]
    unfold Bound
    constructor
    · rintro ⟨⟨g1, g2⟩, -, g3⟩
      exact ⟨g1, g2, fun t c ht hc => (congrArg (fun i => ab (X i l)) (by omega)).trans_le (g3 t c ht hc)⟩
    · rintro ⟨g1, g2, g3⟩
      exact ⟨⟨g1, g2⟩, g1, fun t c ht hc => (congrArg (fun i => ab (X i l)) (by omega)).trans_le (g3 t c ht hc)⟩

/-! ## The state at the entry of a step: the scratch buffers, set at the first step -/

section Entry
variable {sp sp3 sp4 : Space} {p : Prop} [Decidable p]

/-- A buffer of codes by tokens, zeroed at the first step and kept at the others, holds the codes `C` after that. -/
theorem half_entry (M : Memref sig .tc sp S8736x128 .fp8e4m3) (f : BufTy.Contents (Elt Ideal) M.view.ty) (C : ℕ → ℕ → EReal) (b)
    (h : ¬ p → HalfOk (at2 (α := EReal) (M.view.read (Elt Ideal) f)) C) (hC : p → ∀ r l, C r l = 0) :
    HalfOk (at2 (α := EReal) (M.view.read (Elt Ideal) (if hc : p then
      M.view.writes (Elt Ideal) f [⟨Rect.unit (s := S8736x128) ![0, 0] S8736x128.size b, k0_pay41 (F := Ideal)⟩] else f))) C := by
  split_ifs with hp
  · intro t j l ht hj hl
    rw [hC hp, at2_writes_cons M f ![0, 0] 0 0 rfl, if_pos (by omega), at2_mk _ (by omega) (by omega)]
    unfold k0_pay41
    dsimp only
    rw [cast_id]
    show Ideal.ofBits .fp8e4m3 0x00#8 = 0
    simp [Ideal.ofBits, Ideal.e4m3fn, Ideal.ieee]
  · exact h hp

/-- The buffer of codes by heads, zeroed at the first step and kept at the others, holds the codes `C` after that. -/
theorem heads_entry (M : Memref sig .tc sp S16x128x1024 .fp8e4m3) (f : BufTy.Contents (Elt Ideal) M.view.ty) (C : ℕ → ℕ → EReal) (b)
    (h : ¬ p → HeadsOk (at3 (α := EReal) (M.view.read (Elt Ideal) f)) C) (hC : p → ∀ r l, C r l = 0) :
    HeadsOk (at3 (α := EReal) (M.view.read (Elt Ideal) (if hc : p then
      M.view.writes (Elt Ideal) f [⟨Rect.unit (s := S16x128x1024) ![0, 0, 0] S16x128x1024.size b, k0_pay42 (F := Ideal)⟩] else f))) C := by
  split_ifs with hp
  · intro t j l ht hj hl
    rw [hC hp, at3_writes_cons M f ![0, 0, 0] 0 0 0 rfl, if_pos (by omega), at3_mk _ (by omega) (by omega) (by omega)]
    unfold k0_pay42
    dsimp only
    rw [cast_id]
    show Ideal.ofBits .fp8e4m3 0x00#8 = 0
    simp [Ideal.ofBits, Ideal.e4m3fn, Ideal.ieee]
  · exact h hp

/-- The buffer of output scales, set at the first step and kept at the others, holds the product of the scales after that. -/
theorem scales_entry (M : Memref sig .tc sp S16x640 .f32) (f : BufTy.Contents (Elt Ideal) M.view.ty)
    (M3 : Memref sig .tc sp3 S16x640 .f32) (f3 : BufTy.Contents (Elt Ideal) M3.view.ty)
    (M4 : Memref sig .tc sp4 S16x128 .f32) (f4 : BufTy.Contents (Elt Ideal) M4.view.ty) (b b3 b4)
    (h : ¬ p → ScalesOk (at2 (α := EReal) (M.view.read (Elt Ideal) f)) (at2 (α := EReal) (M3.view.read (Elt Ideal) f3)) (at2 (α := EReal) (M4.view.read (Elt Ideal) f4))) :
    ScalesOk (at2 (α := EReal) (M.view.read (Elt Ideal) (if hc : p then
      M.view.writes (Elt Ideal) f [⟨Rect.unit (s := S16x640) ![0, 0] S16x640.size b, k0_pay39 (F := Ideal)
        (M3.view.readAt (Elt Ideal) (Rect.unit (s := S16x640) ![0, 0] S16x640.size b3).toLoadRect f3)
        (M4.view.readAt (Elt Ideal) (Rect.unit (s := S16x128) ![0, 0] S16x1.size b4).toLoadRect f4)⟩] else f)))
      (at2 (α := EReal) (M3.view.read (Elt Ideal) f3)) (at2 (α := EReal) (M4.view.read (Elt Ideal) f4)) := by
  split_ifs with hp
  · intro r n hr hn
    rw [at2_writes_cons M f ![0, 0] 0 0 rfl, if_pos (by omega), scales_at _ _ (by omega) (by omega)]
    refine congrArg₂ (· * ·) ((at2_load M3 f3 _ 0 0 rfl _ (show r - 0 < 16 by omega) (show n - 0 < 640 by omega)).trans ?_)
      ((at2_load M4 f4 _ 0 0 rfl _ (show r - 0 < 16 by omega) Nat.zero_lt_one).trans ?_)
    · exact congrArg₂ (at2 _) (by omega) (by omega)
    · exact congrArg₂ (at2 _) (by omega) (by omega)
  · exact h hp

/-- The buffer of running magnitudes, zeroed at the first step and kept at the others, holds the largest magnitudes met after that. -/
theorem max_entry (M : Memref sig .tc sp S16x128 .f32) (f : BufTy.Contents (Elt Ideal) M.view.ty) (B : ℕ → ℕ → EReal → Prop) (b)
    (h : ¬ p → MaxOk (at2 (α := EReal) (M.view.read (Elt Ideal) f)) B) (hB : p → ∀ r l z, B r l z) :
    MaxOk (at2 (α := EReal) (M.view.read (Elt Ideal) (if hc : p then
      M.view.writes (Elt Ideal) f [⟨Rect.unit (s := S16x128) ![0, 0] S16x128.size b, k0_pay40 (F := Ideal)⟩] else f))) B := by
  split_ifs with hp
  · intro r l hr hl z
    rw [at2_writes_cons M f ![0, 0] 0 0 rfl, if_pos (by omega), at2_mk _ (by omega) (by omega)]
    unfold k0_pay40
    dsimp only
    rw [cast_id]
    have e : Ideal.ofBits .f32 0x00000000#32 = 0 := by simp [Ideal.ofBits, Ideal.ieee]
    show Ideal.ofBits .f32 0x00000000#32 ≤ z ↔ _
    rw [e]
    exact ⟨fun hz => ⟨hz, hB hp r l z⟩, fun hz => hz.1⟩
  · exact h hp

/-- The largest magnitudes, one per head, in every lane. -/
def LastOk (V : ℕ → ℕ → EReal) (B : ℕ → ℕ → EReal → Prop) : Prop :=
  ∀ h l, h < 16 → l < 128 → ∀ z, V h l ≤ z ↔ ∀ l', l' < 128 → 0 ≤ z ∧ B h l' z

/-- The row maxima of the running magnitudes are the largest magnitudes. -/
theorem last_ok (M : Memref sig .tc sp S16x128 .f32) (g : BufTy.Contents (Elt Ideal) M.view.ty) (B : ℕ → ℕ → EReal → Prop) (b)
    (h : MaxOk (at2 (α := EReal) (M.view.read (Elt Ideal) g)) B) :
    LastOk (at2 (α := EReal) (k0_pay2 (F := Ideal) (M.view.readAt (Elt Ideal) (Rect.unit (s := S16x128) ![0, 0] S16x128.size b).toLoadRect g))) B := by
  intro r l hr hl z
  rw [lanes_le _ hr hl]
  refine forall_congr' fun l' => forall_congr' fun hl' => ?_
  rw [show at2 (α := EReal) (M.view.readAt (Elt Ideal) (Rect.unit (s := S16x128) ![0, 0] S16x128.size b).toLoadRect g) r l'
    = at2 (α := EReal) (M.view.read (Elt Ideal) g) (0 + r) (0 + l') from at2_load M g _ 0 0 rfl _ hr hl', Nat.zero_add, Nat.zero_add]
  exact h r l' hr hl' z

/-- A store made at the last step alone: then the window holds the largest magnitudes; at the other steps it is as it was. -/
theorem last_of (M : Memref sig .tc sp S16x128 .f32) (f : BufTy.Contents (Elt Ideal) M.view.ty) (v : FVec Ideal S16x128 .f32) (b)
    {B : ℕ → ℕ → EReal → Prop} (h : LastOk (at2 (α := EReal) v) B) :
    (p → LastOk (at2 (α := EReal) (M.view.read (Elt Ideal) (if hc : p then
        M.view.writes (Elt Ideal) f [⟨Rect.unit (s := S16x128) ![0, 0] S16x128.size b, v⟩] else f))) B)
      ∧ (¬ p → M.view.read (Elt Ideal) (if hc : p then
        M.view.writes (Elt Ideal) f [⟨Rect.unit (s := S16x128) ![0, 0] S16x128.size b, v⟩] else f) = M.view.read (Elt Ideal) f) := by
  refine ⟨fun hp => ?_, fun hp => by rw [dif_neg hp]⟩
  rw [dif_pos hp]
  intro r l hr hl z
  rw [at2_writes_cons M f ![0, 0] 0 0 rfl, if_pos (by omega)]
  exact h r l hr hl z

end Entry

end Cert.KernelIdeal.Val
end
-- ==== Proof.PI.Val.lean ====
/- One step of the kernel: what its run leaves in every buffer. -/
module

public import proofs.«01_k».proof.Proof.Gen.KernelIdeal.Frame
public import proofs.«01_k».proof.Proof.Gen.KernelIdeal.Skeleton
public import proofs.«01_k».proof.Proof.PI.Loops
public import proofs.«01_k».proof.Proof.PI.Step

@[expose] public section

set_option maxRecDepth 16384

noncomputable section

namespace Cert.KernelIdeal.Val

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-- Whether this is the first step. -/
def first (i : grid0.Coords) : BitVec 1 :=
  Scalar.cmpi .ne (Scalar.extui (Scalar.cmpi .eq (BitVec.ofNat 32 (i 0).val) 0#32) : BitVec 32) 0#32

set_option maxHeartbeats 4000000 in
/-- The body at a step. It takes the previous block's codes `C` and the bounds `B` met so far, from the scratch buffers except at the
    first step, where there are none. It leaves the projected tokens of `C`, this block's codes, and the scratch buffers for the
    next step; at the last step also the largest magnitudes. -/
theorem sound_kernel (c : Dev nD) (E : Set ℕ) (i : grid0.Coords) (arg1 : Memref sig .tc .vmem S16384x128 .bf16) (harg1 : arg1.IsWhole) (arg2 : Memref sig .tc .vmem S16x1024x640 .fp8e4m3) (harg2 : arg2.IsWhole) (arg3 : Memref sig .tc .vmem S16x640 .f32) (harg3 : arg3.IsWhole) (arg4 : Memref sig .tc .vmem S16x128 .f32) (harg4 : arg4.IsWhole) (arg5 : Memref sig .tc .vmem S10240x128 .bf16) (harg5 : arg5.IsWhole) (arg6 : Memref sig .tc .vmem S16384x128 .fp8e4m3) (harg6 : arg6.IsWhole) (arg7 : Memref sig .tc .vmem S16x128 .f32) (harg7 : arg7.IsWhole) (arg8 : Memref sig .tc .vmem S8736x128 .fp8e4m3) (harg8 : arg8.IsWhole) (arg9 : Memref sig .tc .vmem S8736x128 .fp8e4m3) (harg9 : arg9.IsWhole) (arg10 : Memref sig .tc .vmem S16x128x1024 .fp8e4m3) (harg10 : arg10.IsWhole) (arg11 : Memref sig .tc .vmem S16x640 .f32) (harg11 : arg11.IsWhole) (arg12 : Memref sig .tc .vmem S16x128 .f32) (harg12 : arg12.IsWhole)
    (x1 : Vec Ideal S16384x128 .bf16) (x2 : Vec Ideal S16x1024x640 .fp8e4m3) (x3 : Vec Ideal S16x640 .f32) (x4 : Vec Ideal S16x128 .f32) (d7 : Vec Ideal S16x128 .f32)
    (C : ℕ → ℕ → EReal) (B : ℕ → ℕ → EReal → Prop) (hC : first i = 1#1 → (∀ r l, C r l = 0) ∧ ∀ h l z, B h l z) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4
        ∗ (∃ f, arg5.view.loc (c : Thread nD τ) ↦{fullShare} f) ∗ (∃ d, owns (c : Thread nD τ) arg6 fullShare d) ∗ owns (c : Thread nD τ) arg7 fullShare d7
        ∗ (∃ f, arg8.view.loc (c : Thread nD τ) ↦[arg8.view.set]{fullShare} f)
        ∗ (∃ f, ⌜¬ first i = 1#1 → HalfOk (at2 (α := EReal) (arg9.view.read (Elt Ideal) f)) C⌝ ∗ arg9.view.loc (c : Thread nD τ) ↦[arg9.view.set]{fullShare} f)
        ∗ (∃ f, ⌜¬ first i = 1#1 → HeadsOk (at3 (α := EReal) (arg10.view.read (Elt Ideal) f)) C⌝ ∗ arg10.view.loc (c : Thread nD τ) ↦[arg10.view.set]{fullShare} f)
        ∗ (∃ f, ⌜¬ first i = 1#1 → ScalesOk (at2 (α := EReal) (arg11.view.read (Elt Ideal) f)) (at2 (α := EReal) x3) (at2 (α := EReal) x4)⌝ ∗ arg11.view.loc (c : Thread nD τ) ↦[arg11.view.set]{fullShare} f)
        ∗ (∃ f, ⌜¬ first i = 1#1 → MaxOk (at2 (α := EReal) (arg12.view.read (Elt Ideal) f)) B⌝ ∗ arg12.view.loc (c : Thread nD τ) ↦[arg12.view.set]{fullShare} f)
        ∗ (iprop(owns (c : Thread nD τ) arg1 fullShare x1 ∗ owns (c : Thread nD τ) arg2 fullShare x2 ∗ owns (c : Thread nD τ) arg3 fullShare x3 ∗ owns (c : Thread nD τ) arg4 fullShare x4
        ∗ (∃ f, ⌜OutOk (at2 (α := EReal) (arg5.view.read (Elt Ideal) f)) C (at3 (α := EReal) x2) (at2 (α := EReal) x3) (at2 (α := EReal) x4)⌝ ∗ arg5.view.loc (c : Thread nD τ) ↦{fullShare} f)
        ∗ (∃ d, ⌜CodesOk (at2 (α := EReal) d) (at2 (α := EReal) x1) (at2 (α := EReal) x4)⌝ ∗ owns (c : Thread nD τ) arg6 fullShare d)
        ∗ (∃ d, ⌜(k0_cond2 i = 1#1 → LastOk (at2 (α := EReal) d) (fun h l z => B h l z ∧ Bound (at2 (α := EReal) x1) h l z)) ∧ (¬ k0_cond2 i = 1#1 → d = d7)⌝ ∗ owns (c : Thread nD τ) arg7 fullShare d)
        ∗ (∃ f, arg8.view.loc (c : Thread nD τ) ↦[arg8.view.set]{fullShare} f)
        ∗ (∃ f, ⌜HalfOk (at2 (α := EReal) (arg9.view.read (Elt Ideal) f)) (code (at2 (α := EReal) x1) (at2 (α := EReal) x4))⌝ ∗ arg9.view.loc (c : Thread nD τ) ↦[arg9.view.set]{fullShare} f)
        ∗ (∃ f, ⌜HeadsOk (at3 (α := EReal) (arg10.view.read (Elt Ideal) f)) (code (at2 (α := EReal) x1) (at2 (α := EReal) x4))⌝ ∗ arg10.view.loc (c : Thread nD τ) ↦[arg10.view.set]{fullShare} f)
        ∗ (∃ f, ⌜ScalesOk (at2 (α := EReal) (arg11.view.read (Elt Ideal) f)) (at2 (α := EReal) x3) (at2 (α := EReal) x4)⌝ ∗ arg11.view.loc (c : Thread nD τ) ↦[arg11.view.set]{fullShare} f)
        ∗ (∃ f, ⌜MaxOk (at2 (α := EReal) (arg12.view.read (Elt Ideal) f)) (fun h l z => B h l z ∧ Bound (at2 (α := EReal) x1) h l z)⌝ ∗ arg12.view.loc (c : Thread nD τ) ↦[arg12.view.set]{fullShare} f)) -∗ K ⟨⟩))
      ⊢ wp frame (wpE (defs₀ (F := Ideal)) Variants.none c none) E (cc0__body i arg1 harg1 arg2 harg2 arg3 harg3 arg4 harg4 arg5 harg5 arg6 harg6 arg7 harg7 arg8 harg8 arg9 harg9 arg10 harg10 arg11 harg11 arg12 harg12) K := by
  simp only [cc0__body_eq_skeleton]; unfold cc0__body_skel
  unfold owns
  iintro ⟨⟨%f1, %hf1, H1⟩, ⟨%f2, %hf2, H2⟩, ⟨%f3, %hf3, H3⟩, ⟨%f4, %hf4, H4⟩, ⟨%f5, H5⟩, ⟨%d6, %f6, -, H6⟩, ⟨%f7, %hf7, H7⟩, ⟨%f8, H8⟩, ⟨%f9, %h9, H9⟩, ⟨%f10, %h10, H10⟩, ⟨%f11, %h11, H11⟩, ⟨%f12, %h12, H12⟩, Hk⟩
  subst hf1 hf2 hf3 hf4 hf7
  sl_exec
  have k9 := half_entry arg9 f9 _ inb_S8736x128_S8736x128_0_0 h9 (fun h => (hC h).1)
  have k10 := heads_entry arg10 f10 _ inb_S16x128x1024_S16x128x1024_0_0_0 h10 (fun h => (hC h).1)
  have k11 := scales_entry arg11 f11 arg3 f3 arg4 f4 inb_S16x640_S16x640_0_0 inb_S16x640_S16x640_0_0 inb_S16x128_S16x1_0_0 h11
  have k12 := max_entry arg12 f12 _ inb_S16x128_S16x128_0_0 h12 (fun h => (hC h).2)
  have hv := fun j l (hj : j < 16) (hl : l < 128) => rcp_at arg4 f4 ![0, 0] 0 rfl inb_S16x128_S8x128_0_0 hj hl
  have hv' := fun j l (hj : j < 16) (hl : l < 128) => rcp_at arg4 f4 ![8, 0] 8 rfl inb_S16x128_S8x128_8_0 hj hl
  have q1 := ‹CodesUpTo _ _ 0 128 0 _ _ _›
  have q2 := ‹CodesUpTo _ _ 0 68 0 _ _ _›
  have q3 := ‹CodesUpTo _ _ 64 128 64 _ _ _›
  have q4 := ‹CodesUpTo _ _ 64 68 0 _ _ _›
  have q5 := ‹SplitUpTo _ 8 _ _ _›
  have q6 := ‹SplitUpTo _ 0 _ _ _›
  have q7 := ‹MaxesUpTo _ 0 _ _ _›
  have q8 := ‹MaxesUpTo _ 64 _ _ _›
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact out_ok arg5 harg5 arg10 _ _ arg2 f2 arg11 _ k9 k10 q5 k11 f5
  isplitl [H6]
  · iexists _; isplitr
    swap
    · iexists _; isplitr
      swap; · iexact H6
      ipureintro; rfl
    ipureintro
    exact codes_ok hv hv' q1 q3
  isplitl [H7]
  · iexists _; isplitr
    swap
    · iexists _; isplitr
      swap; · iexact H7
      ipureintro; rfl
    ipureintro
    exact last_of arg7 f7 _ _ (last_ok arg12 _ _ _ (max_ok arg12 _ _ k12 q7 q8 _ _ _ _))
  isplitl [H8]
  · iexists _; iexact H8
  isplitl [H9]
  · iexists _; isplitr
    swap; · iexact H9
    ipureintro
    exact half_ok hv' q4
  isplitl [H10]
  · iexists _; isplitr
    swap; · iexact H10
    ipureintro
    exact heads_ok (fun t j l => first_half hv q2) q6
  isplitl [H11]
  · iexists _; isplitr
    swap; · iexact H11
    ipureintro
    exact k11
  iexists _; isplitr
  swap; · iexact H12
  ipureintro
  exact max_ok arg12 _ _ k12 q7 q8 _ _ _ _

end Cert.KernelIdeal.Val

end
-- ==== Proof.PI.Data.lean ====
/- What the arrays hold: the blocks of activations, the codes, the projected tokens and the largest magnitudes, as functions of
   the arrays the launch finds. -/
module

public import proofs.«01_k».proof.Proof.Gen.KernelIdeal.Frame
public import proofs.«01_k».proof.Proof.PI.Val
public import Idealize.ShloMosaic.Lib.Claim

@[expose] public section

set_option maxRecDepth 16384

noncomputable section

namespace Cert.KernelIdeal.Val

open Cert.KernelIdeal.Gen
open Idealize.ShloMosaic Idealize.ShloMosaic.TcCoe Idealize.ShloMosaic.Tactic

/-- The array of two axes with a given value at every row and column. -/
def vec2 {n m : ℕ} (f : ℕ → ℕ → EReal) : (⟨2, ![n, m]⟩ : Shape).Idx → EReal := fun y => f (y 0).val (y 1).val

/-- Reading a function laid out as an array. -/
theorem at2_vec2 {n m : ℕ} (f : ℕ → ℕ → EReal) {r l : ℕ} (hr : r < n) (hl : l < m) : at2 (vec2 (n := n) (m := m) f) r l = f r l := by
  rw [at2_mk _ hr hl]; rfl

/-- An array reading as a function everywhere is that function laid out. -/
theorem eq_vec2 {n m : ℕ} (X : (⟨2, ![n, m]⟩ : Shape).Idx → EReal) (f : ℕ → ℕ → EReal) (h : ∀ r l, r < n → l < m → at2 X r l = f r l) :
    X = vec2 f := funext fun y => (at2_of X y rfl rfl).trans (h _ _ (y 0).isLt (y 1).isLt)

variable (m : (ℓ : Loc nD τ sig) → Buf (Elt Ideal) ℓ) (c : Dev nD)

/-- The activations by rows, the weights, and their scales, as the launch finds them. -/
def XA : ℕ → ℕ → EReal := at2 (n := 2097152) (m := 128) (α := EReal) (V m c main_v2)
/-- The weights as the launch finds them. -/
def WA : ℕ → ℕ → ℕ → EReal := at3 (n := 16) (m := 1024) (p := 640) (α := EReal) (V m c main_arg1)
/-- The weight scales as the launch finds them. -/
def WSA : ℕ → ℕ → EReal := at2 (n := 16) (m := 640) (α := EReal) (V m c main_arg2)
/-- The activation scales, one row to a head, as the launch finds them. -/
def XSA : ℕ → ℕ → EReal := at2 (n := 16) (m := 128) (α := EReal) (V m c main_v4)

/-- The windows' blocks: the activations' and codes' at `min t 127`, the projected tokens' at `t - 1`, the others whole. -/
theorem idx : ∀ t : Fin cfg0.N, win0_0.index t = ![min t.val 127, 0] ∧ win0_1.index t = ![0, 0, 0] ∧ win0_2.index t = ![0, 0]
    ∧ win0_3.index t = ![0, 0] ∧ win0_4.index t = ![t.val - 1, 0] ∧ win0_5.index t = ![min t.val 127, 0] ∧ win0_6.index t = ![0, 0] :=
  (by decide +kernel : ∀ t : Fin grid0.N, _)

/-- The body's first condition holds at step 0 alone. -/
theorem first_iff : ∀ t : Fin cfg0.N, first (grid0.coords t) = 1#1 ↔ t.val = 0 :=
  (by decide +kernel : ∀ t : Fin grid0.N, _)

/-- The body's last condition holds at step 128 alone. -/
theorem last_iff : ∀ t : Fin cfg0.N, k0_cond2 (grid0.coords t) = 1#1 ↔ t.val = 128 :=
  (by decide +kernel : ∀ t : Fin grid0.N, _)

/-- The projected tokens are written back only after a step past the first. -/
theorem flush4 : ∀ t : Fin cfg0.N, (cfg0.win 4).flush t = true → 1 ≤ t.val :=
  (by decide +kernel : ∀ t : Fin grid0.N, _)

/-- A step's block of activations: 16384 rows of the array. -/
theorem blk0 (t : Fin cfg0.N) {r l : ℕ} (hr : r < 16384) (hl : l < 128) :
    at2 (n := 16384) (m := 128) (α := EReal) (iblk m c 0 t) r l = XA m c (16384 * min t.val 127 + r) l := by
  rw [at2_mk _ hr hl]
  unfold XA iblk
  refine at2_of (n := 2097152) (m := 128) (α := EReal) (V m c main_v2) _ ?_ ?_
  all_goals blk_simp [idx t]
  · show min t.val 127 * 16384 + r = _; omega

/-- Every step's block of weights is the whole array. -/
theorem blk1 (t : Fin cfg0.N) : at3 (n := 16) (m := 1024) (p := 640) (α := EReal) (iblk m c 1 t) = WA m c := by
  funext a b q
  by_cases h : a < 16 ∧ b < 1024 ∧ q < 640
  · rw [at3_mk _ h.1 h.2.1 h.2.2]
    unfold WA iblk
    refine at3_of (n := 16) (m := 1024) (p := 640) (α := EReal) (V m c main_arg1) _ ?_ ?_ ?_
    all_goals blk_simp [idx t]
  · rw [at3_out _ h]; unfold WA; rw [at3_out _ h]

/-- Every step's block of weight scales is the whole array. -/
theorem blk2 (t : Fin cfg0.N) : at2 (n := 16) (m := 640) (α := EReal) (iblk m c 2 t) = WSA m c := by
  funext a b
  by_cases h : a < 16 ∧ b < 640
  · rw [at2_mk _ h.1 h.2]
    unfold WSA iblk
    refine at2_of (n := 16) (m := 640) (α := EReal) (V m c main_arg2) _ ?_ ?_
    all_goals blk_simp [idx t]
  · rw [at2_out _ h]; unfold WSA; rw [at2_out _ h]

/-- Every step's block of activation scales is the whole array. -/
theorem blk3 (t : Fin cfg0.N) : at2 (n := 16) (m := 128) (α := EReal) (iblk m c 3 t) = XSA m c := by
  funext a b
  by_cases h : a < 16 ∧ b < 128
  · rw [at2_mk _ h.1 h.2]
    unfold XSA iblk
    refine at2_of (n := 16) (m := 128) (α := EReal) (V m c main_v4) _ ?_ ?_
    all_goals blk_simp [idx t]
  · rw [at2_out _ h]; unfold XSA; rw [at2_out _ h]

/-! ## The values -/

/-- The code of a row of the activations. -/
def CA (r l : ℕ) : EReal := code (XA m c) (XSA m c) r l

/-- The codes a step projects: none at the first, else the previous block's. -/
def prev (t : ℕ) (r l : ℕ) : EReal := if t = 0 then 0 else CA m c (16384 * min (t - 1) 127 + r) l

/-- The bounds met before step `n`. -/
def met (n h l : ℕ) (z : EReal) : Prop :=
  ∀ s t k, s < n → t < 128 → k < 8 → ab (XA m c (16384 * min s 127 + (128 * t + 64 * (h / 8) + 8 * k + h % 8)) l) ≤ z

/-- A row of the projected tokens of codes `C`. -/
def outRow (C : ℕ → ℕ → EReal) (W : ℕ → ℕ → ℕ → EReal) (WS XS : ℕ → ℕ → EReal) (r l : ℕ) : EReal :=
  (∑ k : Fin 1024, C (128 * (r / 80) + 64 * (r / 40 % 2) + 8 * (k.val / 128) + r % 8) (k.val % 128)
      * W (8 * (r / 40 % 2) + r % 8) k.val (128 * (r / 8 % 5) + l))
    * (WS (8 * (r / 40 % 2) + r % 8) (128 * (r / 8 % 5) + l) * XS (8 * (r / 40 % 2) + r % 8) 0)

/-- The largest magnitude of a head: the least bound of all its activations. -/
def largest (n h : ℕ) : EReal := sInf {z | ∀ l', l' < 128 → 0 ≤ z ∧ met m c n h l' z}

/-- The codes of a step's block are those rows of all the codes. -/
theorem code_blk (t : Fin cfg0.N) {r l : ℕ} (hr : r < 16384) (hl : l < 128) :
    code (at2 (n := 16384) (m := 128) (α := EReal) (iblk m c 0 t)) (XSA m c) r l = CA m c (16384 * min t.val 127 + r) l := by
  unfold CA code
  rw [blk0 m c t hr hl]
  exact congrArg (qz _) (congrArg (rcp _ · l) (by omega))

/-- The next step projects the codes of this one. -/
theorem prev_succ (t r l : ℕ) : prev m c (t + 1) r l = CA m c (16384 * min t 127 + r) l := by
  unfold prev; rw [if_neg (by omega)]; rfl

/-- The bounds met after a step: those before it, and those of the step's block. -/
theorem met_succ (t : Fin cfg0.N) {h l : ℕ} (hh : h < 16) (hl : l < 128) (z : EReal) :
    met m c (t.val + 1) h l z ↔ met m c t.val h l z ∧ Bound (at2 (n := 16384) (m := 128) (α := EReal) (iblk m c 0 t)) h l z := by
  have e : ∀ u k, u < 128 → k < 8 → at2 (n := 16384) (m := 128) (α := EReal) (iblk m c 0 t) (128 * u + 64 * (h / 8) + 8 * k + h % 8) l
      = XA m c (16384 * min t.val 127 + (128 * u + 64 * (h / 8) + 8 * k + h % 8)) l := fun u k hu hk => blk0 m c t (by omega) hl
  constructor
  · intro g
    exact ⟨fun s u k hs => g s u k (by omega), fun u k hu hk => by rw [e u k hu hk]; exact g t.val u k (by omega) hu hk⟩
  · rintro ⟨g1, g2⟩ s u k hs hu hk
    rcases Nat.lt_succ_iff_lt_or_eq.mp hs with h' | rfl
    · exact g1 s u k h' hu hk
    · have := g2 u k hu hk
      rwa [e u k hu hk] at this

/-- The statement of a half of the codes depends on the codes inside the block alone. -/
theorem HalfOk.congr {V C C' : ℕ → ℕ → EReal} (h : HalfOk V C) (e : ∀ r l, r < 16384 → l < 128 → C r l = C' r l) : HalfOk V C' :=
  fun t j l ht hj hl => (h t j l ht hj hl).trans (e _ _ (by omega) hl)

/-- The statement of the codes by heads depends on the codes inside the block alone. -/
theorem HeadsOk.congr {V : ℕ → ℕ → ℕ → EReal} {C C' : ℕ → ℕ → EReal} (h : HeadsOk V C) (e : ∀ r l, r < 16384 → l < 128 → C r l = C' r l) : HeadsOk V C' :=
  fun a b q ha hb hq => (h a b q ha hb hq).trans (e _ _ (by omega) (by omega))

/-- The statement of the running magnitudes depends on the bounds inside the array alone. -/
theorem MaxOk.congr {V : ℕ → ℕ → EReal} {B B' : ℕ → ℕ → EReal → Prop} (h : MaxOk V B) (e : ∀ h l z, h < 16 → l < 128 → (B h l z ↔ B' h l z)) : MaxOk V B' :=
  fun r l hr hl z => (h r l hr hl z).trans (and_congr_right fun _ => e r l z hr hl)

/-- The statement of the largest magnitudes depends on the bounds inside the array alone. -/
theorem LastOk.congr {V : ℕ → ℕ → EReal} {B B' : ℕ → ℕ → EReal → Prop} (h : LastOk V B) (e : ∀ h l z, h < 16 → l < 128 → (B h l z ↔ B' h l z)) : LastOk V B' :=
  fun r l hr hl z => (h r l hr hl z).trans (forall_congr' fun l' => forall_congr' fun hl' => and_congr_right fun _ => e r l' z hr hl')

/-- The least bound is the largest magnitude. -/
theorem LastOk.eq {V : ℕ → ℕ → EReal} {n : ℕ} (h : LastOk V (met m c n)) {r l : ℕ} (hr : r < 16) (hl : l < 128) : V r l = largest m c n r := by
  unfold largest
  apply le_antisymm
  · exact le_sInf fun z hz => (h r l hr hl z).mpr hz
  · exact sInf_le ((h r l hr hl _).mp le_rfl)

end Cert.KernelIdeal.Val
end
-- ==== Proof.PI.Track.lean ====
/- The kernel's launch on idealised values: what each step finds in the scratch buffers and what it leaves in every window. -/
module

public import proofs.«01_k».proof.Proof.PI.Data
public import Idealize.ShloMosaic.Lib.Pipeline.FrameSuffix

@[expose] public section

set_option maxRecDepth 16384

noncomputable section

namespace Cert.KernelIdeal.Val

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- A whole buffer held, as `owns` at some contents. -/
theorem owns_of_whole (c : Dev nD) {s : Shape} {e : EltTy} (M : Memref sig .tc .vmem s e) (h : M.IsWhole) :
    iprop(∃ f, M.view.loc (c : Thread nD τ) ↦{fullShare} f)
      ⊢ (iprop(∃ X : Vec Ideal s e, owns (c : Thread nD τ) M fullShare X) : sProp 𝕄) := by
  iintro ⟨%f, H⟩
  iexists _; unfold owns; iexists f; isplitr
  · ipureintro; rfl
  rw [h.set_eq_univ]; iexact H

/-- `owns` at some contents, as a whole buffer held. -/
theorem whole_of_owns (c : Dev nD) {s : Shape} {e : EltTy} (M : Memref sig .tc .vmem s e) (h : M.IsWhole) :
    (iprop(∃ X : Vec Ideal s e, owns (c : Thread nD τ) M fullShare X) : sProp 𝕄)
      ⊢ iprop(∃ f, M.view.loc (c : Thread nD τ) ↦{fullShare} f) := by
  unfold owns; rw [h.set_eq_univ]
  iintro ⟨%X, %f, -, H⟩
  iexists f; iexact H

/-- The scratch buffers as the body's triple names them. -/
theorem scratch_view (c : Dev nD) (b : Ref sig .tc) :
    (iprop(∃ f : Buf (Elt Ideal) ((c : Thread nD τ).loc b), ((c : Thread nD τ).loc b) ↦{fullShare} f) : sProp 𝕄)
      = iprop(∃ f, (Memref.whole b).view.loc (c : Thread nD τ) ↦[(Memref.whole b).view.set]{fullShare} f) := by
  rw [(Memref.isWhole_whole b).set_eq_univ]

/-- The body table's row at point `t`'s slots is the body. -/
theorem defs₀_row (t : Fin cfg0.N) :
    defs₀ (F := Ideal) .tc cfg0.body (cfg0.bodyArgs t (cfg0.slots t)) = bodyAt0 t := by
  unfold defs₀; rw [Defs.onTc_tc]

/-- A scratch buffer held at contents of which `P` is known. -/
abbrev held (c : Dev nD) (b : Ref sig .tc) (P : Buf (Elt Ideal) ((Memref.whole b).view.loc (c : Thread nD τ)) → Prop) : sProp 𝕄 :=
  iprop(∃ f, ⌜P f⌝ ∗ (Memref.whole b).view.loc (c : Thread nD τ) ↦[(Memref.whole b).view.set]{fullShare} f)

/-- Owning a buffer whole gives what is held of it, for a property every contents has. -/
theorem held_intro (c : Dev nD) (b : Ref sig .tc) (P : Buf (Elt Ideal) ((Memref.whole b).view.loc (c : Thread nD τ)) → Prop) (hP : ∀ f, P f) :
    iprop(∃ f, (Memref.whole b).view.loc (c : Thread nD τ) ↦[(Memref.whole b).view.set]{fullShare} f) ⊢ held c b P := by
  iintro ⟨%f, H⟩
  iexists f; isplitr
  · ipureintro; exact hP f
  iexact H

/-- What is held of a buffer is owning it whole at some contents with the property. -/
theorem held_elim (c : Dev nD) (b : Ref sig .tc) (P : Buf (Elt Ideal) ((Memref.whole b).view.loc (c : Thread nD τ)) → Prop) :
    held c b P ⊢ iprop(∃ f, (Memref.whole b).view.loc (c : Thread nD τ) ↦[(Memref.whole b).view.set]{fullShare} f) := by
  iintro ⟨%f, -, H⟩
  iexists f; iexact H

/-- What is known of the scratch buffers before step `n`: from the second step on they hold the previous block's codes (half of
    them by tokens, half by heads), the product of the scales, and the largest magnitudes met. -/
abbrev known (c : Dev nD) (n : ℕ) : sProp 𝕄 :=
  iprop((∃ f, (Memref.whole cc0_scratch0).view.loc (c : Thread nD τ) ↦[(Memref.whole cc0_scratch0).view.set]{fullShare} f)
    ∗ held c cc0_scratch1 (fun f => n ≠ 0 → HalfOk (at2 (n := 8736) (m := 128) (α := EReal) ((Memref.whole cc0_scratch1).view.read (Elt Ideal) f)) (prev m c n))
    ∗ held c cc0_scratch2 (fun f => n ≠ 0 → HeadsOk (at3 (n := 16) (m := 128) (p := 1024) (α := EReal) ((Memref.whole cc0_scratch2).view.read (Elt Ideal) f)) (prev m c n))
    ∗ held c cc0_scratch3 (fun f => n ≠ 0 → ScalesOk (at2 (n := 16) (m := 640) (α := EReal) ((Memref.whole cc0_scratch3).view.read (Elt Ideal) f)) (WSA m c) (XSA m c))
    ∗ held c cc0_scratch4 (fun f => n ≠ 0 → MaxOk (at2 (n := 16) (m := 128) (α := EReal) ((Memref.whole cc0_scratch4).view.read (Elt Ideal) f)) (met m c n)))

/-- The proof data: the arrays as the region finds them, the operands' blocks left in place, the results' blocks named. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => vec2 (n := 10240) (m := 128) (outRow (prev m c t.val) (WA m c) (WSA m c) (XSA m c))
    | ⟨5, _⟩ => vec2 (n := 16384) (m := 128) (fun r l => CA m c (16384 * min t.val 127 + r) l)
    | ⟨6, _⟩ => vec2 (n := 16) (m := 128) (fun h _ => largest m c (t.val + 1) h)
  Φ n := iprop(known m c n.val ∗ ∃ r, prngReg c r)
  q _ := fullShare
  owed _ := 0

/-- Each window's array at the launch. -/
theorem A_eq (c : Dev nD) (w : Fin cfg0.W) : (dats m 0 c).A w = V m c (Pipeline.arrRef spec0 w) := by
  dsimp only [dats]

/-- The activation window holds its block before the body. -/
theorem before0_0 (c : Dev nD) (t : Fin cfg0.N) (d) : (dats m 0 c).before 0 t d = iblk m c 0 t :=
  before0_0_of m (dats m 0 c) (A_eq m c 0) (fun _ => rfl) t d
/-- The weight window holds its block before the body. -/
theorem before0_1 (c : Dev nD) (t : Fin cfg0.N) (d) : (dats m 0 c).before 1 t d = iblk m c 1 t :=
  before0_1_of m (dats m 0 c) (A_eq m c 1) (fun _ => rfl) t d
/-- The weight-scale window holds its block before the body. -/
theorem before0_2 (c : Dev nD) (t : Fin cfg0.N) (d) : (dats m 0 c).before 2 t d = iblk m c 2 t :=
  before0_2_of m (dats m 0 c) (A_eq m c 2) (fun _ => rfl) t d
/-- The scale window holds its block before the body. -/
theorem before0_3 (c : Dev nD) (t : Fin cfg0.N) (d) : (dats m 0 c).before 3 t d = iblk m c 3 t :=
  before0_3_of m (dats m 0 c) (A_eq m c 3) (fun _ => rfl) t d

/-- What the results' windows are left holding. -/
theorem after0_4 (c : Dev nD) (t : Fin cfg0.N) : (dats m 0 c).after 4 t = vec2 (n := 10240) (m := 128) (outRow (prev m c t.val) (WA m c) (WSA m c) (XSA m c)) := rfl
/-- What the code window holds after the body: the codes of the block. -/
theorem after0_5 (c : Dev nD) (t : Fin cfg0.N) : (dats m 0 c).after 5 t = vec2 (n := 16384) (m := 128) (fun r l => CA m c (16384 * min t.val 127 + r) l) := rfl
/-- What the magnitude window holds after the body: the largest magnitudes so far. -/
theorem after0_6 (c : Dev nD) (t : Fin cfg0.N) : (dats m 0 c).after 6 t = vec2 (n := 16) (m := 128) (fun h _ => largest m c (t.val + 1) h) := rfl

/-- Before the body at a point: the invariant and each window's current buffer. -/
abbrev bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- The magnitudes' buffer after a point: written at the last point, else as found. -/
abbrev left6 (c : Dev nD) (t : Fin cfg0.N) : sProp 𝕄 :=
  match cfg0.idle 6 (cfg0.grid.coords t) with
  | true =>
    match (cfg0.win 6).flush t with
    | false => iprop(∃ d, owns (c : Thread nD τ) (st0_6 t) fullShare ((dats m 0 c).before 6 t d))
    | true => owns (c : Thread nD τ) (st0_6 t) fullShare ((dats m 0 c).after 6 t)
  | false => owns (c : Thread nD τ) (st0_6 t) fullShare ((dats m 0 c).after 6 t)

/-- After it. -/
abbrev bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ left6 m c t)

/-- The magnitudes' buffer is left as the obligation asks. -/
theorem left6_intro (c : Dev nD) (t : Fin cfg0.N) (d0 d : Vec Ideal S16x128 .f32)
    (h : (k0_cond2 (grid0.coords t) = 1#1 → LastOk (at2 (n := 16) (m := 128) (α := EReal) d) (fun h l z => met m c t.val h l z ∧ Bound (at2 (n := 16384) (m := 128) (α := EReal) (iblk m c 0 t)) h l z))
      ∧ (¬ k0_cond2 (grid0.coords t) = 1#1 → d = (dats m 0 c).before 6 t d0)) :
    (owns (c : Thread nD τ) (st0_6 t) fullShare d : sProp 𝕄) ⊢ left6 m c t := by
  unfold left6
  by_cases hk : k0_cond2 (grid0.coords t) = 1#1
  · have e1 : cfg0.idle 6 (cfg0.grid.coords t) = false := by show (!(k0_cond2 (grid0.coords t) == 1#1)) = false; rw [hk]; rfl
    have e2 : d = (dats m 0 c).after 6 t := by
      rw [after0_6]
      exact eq_vec2 (n := 16) (m := 128) d _ fun r l hr hl => LastOk.eq m c ((h.1 hk).congr fun h l z hh hl => (met_succ m c t hh hl z).symm) hr hl
    rw [e1, ← e2]
  · have e1 : cfg0.idle 6 (cfg0.grid.coords t) = true := by
      show (!(k0_cond2 (grid0.coords t) == 1#1)) = true
      rw [Bool.not_eq_true', beq_eq_false_iff_ne]; exact hk
    have e3 : (cfg0.win 6).flush t = false := by
      rw [Bool.eq_false_iff]; intro hf
      have h1 := (flush0_6 t).mp hf
      have h2 : t.val < 129 := t.isLt
      exact hk ((last_iff t).mpr (by omega))
    rw [e1, e3, h.2 hk]
    iintro H
    iexists d0; iexact H

set_option maxHeartbeats 1600000 in
/-- The body at any point. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3]
  rw [show (dats m 0 c).Φ t.succ = iprop(known m c (t.val + 1) ∗ ∃ r, prngReg c r) from rfl,
    show (dats m 0 c).Φ t.castSucc = iprop(known m c t.val ∗ ∃ r, prngReg c r) from rfl,
    show (dats m 0 c).owesAt () t.succ = (dats m 0 c).owesAt () t.castSucc from rfl,
    show (dats m 0 c).after 0 t = iblk m c 0 t from rfl, show (dats m 0 c).after 1 t = iblk m c 1 t from rfl,
    show (dats m 0 c).after 2 t = iblk m c 2 t from rfl, show (dats m 0 c).after 3 t = iblk m c 3 t from rfl, after0_4, after0_5]
  have hf : ¬ first (grid0.coords t) = 1#1 → t.val ≠ 0 := fun h e => h ((first_iff t).mpr e)
  have hx2 := blk1 m c t
  have hx3 := blk2 m c t
  have hx4 := blk3 m c t
  have hcode : ∀ r l, r < 16384 → l < 128 → code (at2 (n := 16384) (m := 128) (α := EReal) (iblk m c 0 t)) (XSA m c) r l = prev m c (t.val + 1) r l :=
    fun r l hr hl => (code_blk m c t hr hl).trans (prev_succ m c t.val r l).symm
  unfold known
  iintro ⟨⟨⟨S0, ⟨%g1, %p1, S1⟩, ⟨%g2, %p2, S2⟩, ⟨%g3, %p3, S3⟩, ⟨%g4, %p4, S4⟩⟩, HR⟩, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _ _ _ _ _ _ _ _ _ _ _ (iblk m c 0 t) (iblk m c 1 t) (iblk m c 2 t) (iblk m c 3 t)
    ((dats m 0 c).before 6 t d6) (prev m c t.val) (met m c t.val)
    (fun h => by
      have e := (first_iff t).mp h
      exact ⟨fun r l => by unfold prev; rw [if_pos e], fun h l z s u k hs => by omega⟩) _)
  isplitl [H0]; · iexact H0
  isplitl [H1]; · iexact H1
  isplitl [H2]; · iexact H2
  isplitl [H3]; · iexact H3
  isplitl [H4]
  · iapply (whole_of_owns c (st0_4 t) (hstage0_4 ((cfg0.slots t 4).cast nbuf0_4)))
    iexists _; iexact H4
  isplitl [H5]; · iexists _; iexact H5
  isplitl [H6]; · iexact H6
  isplitl [S0]; · iexact S0
  isplitl [S1]
  · iexists g1; isplitr
    · ipureintro; exact fun hn => p1 (hf hn)
    iexact S1
  isplitl [S2]
  · iexists g2; isplitr
    · ipureintro; exact fun hn => p2 (hf hn)
    iexact S2
  isplitl [S3]
  · iexists g3; isplitr
    · ipureintro; rw [hx3, hx4]; exact fun hn => p3 (hf hn)
    iexact S3
  isplitl [S4]
  · iexists g4; isplitr
    · ipureintro; exact fun hn => p4 (hf hn)
    iexact S4
  iintro ⟨H0, H1, H2, H3, ⟨%f4, %h4, H4⟩, ⟨%f5, %h5, H5⟩, ⟨%f6, %h6, H6⟩, S0, ⟨%e1, %q1, S1⟩, ⟨%e2, %q2, S2⟩, ⟨%e3, %q3, S3⟩, ⟨%e4, %q4, S4⟩⟩
  isplitl [S0 S1 S2 S3 S4 HR]
  · isplitl [S0 S1 S2 S3 S4]
    · isplitl [S0]; · iexact S0
      isplitl [S1]
      · iexists e1; isplitr
        · ipureintro; rw [hx4] at q1; exact fun _ => q1.congr hcode
        iexact S1
      isplitl [S2]
      · iexists e2; isplitr
        · ipureintro; rw [hx4] at q2; exact fun _ => q2.congr hcode
        iexact S2
      isplitl [S3]
      · iexists e3; isplitr
        · ipureintro; rw [hx3, hx4] at q3; exact fun _ => q3
        iexact S3
      iexists e4; isplitr
      · ipureintro; exact fun _ => q4.congr fun h l z hh hl => (met_succ m c t hh hl z).symm
      iexact S4
    · iexact HR
  isplitl [Ho]; · iexact Ho
  isplitl [H0]; · iexact H0
  isplitl [H1]; · iexact H1
  isplitl [H2]; · iexact H2
  isplitl [H3]; · iexact H3
  isplitl [H4]
  · unfold owns; iexists f4; isplitr
    · ipureintro
      rw [hx2, hx3, hx4] at h4
      exact eq_vec2 (n := 10240) (m := 128) _ _ h4
    rw [show (st0_4 t).view.set = _ from (hstage0_4 ((cfg0.slots t 4).cast nbuf0_4)).set_eq_univ]; iexact H4
  isplitl [H5]
  · have e : f5 = vec2 (n := 16384) (m := 128) (fun r l => CA m c (16384 * min t.val 127 + r) l) := by
      rw [hx4] at h5
      exact eq_vec2 (n := 16384) (m := 128) _ _ fun r l hr hl => (h5 r l hr hl).trans (code_blk m c t hr hl)
    rw [← e]; iexact H5
  iapply (left6_intro m c t d6 f6 h6); iexact H6

/-- The body obligation at every point. -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-- The scratch buffers start with nothing known. -/
theorem start (c : Dev nD) : Pipeline.ΦA spec0 c ⊢ (dats m 0 c).Φ 0 := by
  rw [show (dats m 0 c).Φ 0 = iprop(known m c 0 ∗ ∃ r, prngReg c r) from rfl]
  unfold Pipeline.ΦA
  rw [scopedRest0_eq]
  simp only [scratch_view]
  unfold known
  iintro ⟨⟨S0, S1, S2, S3, S4⟩, HR⟩
  isplitl [S0 S1 S2 S3 S4]
  · isplitl [S0]; · iexact S0
    isplitl [S1]; · iapply (held_intro c cc0_scratch1 _ fun f h => absurd rfl h); iexact S1
    isplitl [S2]; · iapply (held_intro c cc0_scratch2 _ fun f h => absurd rfl h); iexact S2
    isplitl [S3]; · iapply (held_intro c cc0_scratch3 _ fun f h => absurd rfl h); iexact S3
    iapply (held_intro c cc0_scratch4 _ fun f h => absurd rfl h); iexact S4
  · iexact HR

/-- In the end they are given back. -/
theorem finish (c : Dev nD) : (dats m 0 c).Φ (Fin.last cfg0.N) ⊢ Pipeline.ΦA spec0 c := by
  rw [show (dats m 0 c).Φ (Fin.last cfg0.N) = iprop(known m c cfg0.N ∗ ∃ r, prngReg c r) from rfl]
  unfold Pipeline.ΦA
  rw [scopedRest0_eq]
  simp only [scratch_view]
  unfold known
  iintro ⟨⟨S0, S1, S2, S3, S4⟩, HR⟩
  isplitl [S0 S1 S2 S3 S4]
  · isplitl [S0]; · iexact S0
    isplitl [S1]; · iapply (held_elim c cc0_scratch1); iexact S1
    isplitl [S2]; · iapply (held_elim c cc0_scratch2); iexact S2
    isplitl [S3]; · iapply (held_elim c cc0_scratch3); iexact S3
    iapply (held_elim c cc0_scratch4); iexact S4
  · iexact HR

set_option backward.isDefEq.respectTransparency.types false in
set_option maxHeartbeats 800000 in
/-- The launch: the arrays end as the blocks say, every other buffer as the lines after the region leave it, and every
    semaphore counter at zero. -/
theorem run_main_quiescent : θ_run defs (onTc (τ := τ) (main (F := Ideal))) (s₀ m ρ)
    (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := start m) (hout := finish m)

/-- The same without the counters. -/
theorem run_main : θ_run defs (onTc (τ := τ) (main (F := Ideal))) (s₀ m ρ)
    (Pipeline.FramePost cfgs (dats m) 0 (Pipeline.afterTail₀ cfgs (dats m) 0 (V0 m) [hostOps1])) :=
  (θ_run defs _ _).mono (fun _ h => h.1) (run_main_quiescent m ρ)

/-- The kernel terminates without a fault, its argument arrays are as they were, and every semaphore counter is zero. -/
theorem frame_claim : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.KernelIdeal.Val
end
-- ==== Proof.Spec.lean ====
/- The problem's results as functions of the argument arrays, over the extended reals. -/
module

public import Idealize.ShloMosaic.Lib.Pipeline.ValueKit

@[expose] public section

set_option maxRecDepth 16384

noncomputable section

namespace Cert.Spec

open Idealize.ShloMosaic

/-- The activations' and codes' shape: batch, position, head, feature. -/
abbrev SX : Shape := ⟨4, ![4, 4096, 16, 1024]⟩
/-- The weights' shape: head, feature, output. -/
abbrev SW : Shape := ⟨3, ![16, 1024, 640]⟩
/-- The weight scales' shape: head, output. -/
abbrev SWS : Shape := ⟨2, ![16, 640]⟩
/-- The activation scales' shape: head. -/
abbrev SXS : Shape := ⟨1, ![16]⟩
/-- The projected tokens' shape: batch, position, head, output. -/
abbrev SY : Shape := ⟨4, ![4, 4096, 16, 640]⟩

/-- The quantiser: a value times the reciprocal scale `v`, clipped to ±448. -/
def quant (x v : EReal) : EReal :=
  min (Scalar.ofBits (F := Ideal) .f32 0x43E00000#32) (max (Scalar.ofBits (F := Ideal) .f32 0xC3E00000#32) (x * v))

/-- The reciprocal of a head's scale. -/
def inv (xs : SXS.Idx → EReal) (h : Fin 16) : EReal := Ideal.div (Scalar.ofBits (F := Ideal) .f32 0x3F800000#32) (xs (ix1 h))

/-- The codes. -/
def codes (x : SX.Idx → EReal) (xs : SXS.Idx → EReal) : SX.Idx → EReal := fun y => quant (x y) (inv xs (y 2))

/-- The projected tokens. -/
def tokens (x : SX.Idx → EReal) (w : SW.Idx → EReal) (ws : SWS.Idx → EReal) (xs : SXS.Idx → EReal) : SY.Idx → EReal := fun y =>
  (∑ k : Fin 1024, codes x xs (ix4 (y 0) (y 1) (y 2) k) * w (ix3 (y 2) k (y 3))) * (xs (ix1 (y 2)) * ws (ix2 (y 2) (y 3)))

/-- `v` is the largest magnitude of head `h`: its upper bounds are those of every magnitude. -/
def IsLargest (x : SX.Idx → EReal) (h : Fin 16) (v : EReal) : Prop :=
  ∀ z, v ≤ z ↔ ∀ (b : Fin 4) (s : Fin 4096) (k : Fin 1024), max (x (ix4 b s h k)) (-(x (ix4 b s h k))) ≤ z

/-- There is one largest magnitude. -/
theorem IsLargest.eq {x : SX.Idx → EReal} {h : Fin 16} {u v : EReal} (hu : IsLargest x h u) (hv : IsLargest x h v) : u = v :=
  le_antisymm ((hu v).mpr ((hv v).mp le_rfl)) ((hv u).mpr ((hu u).mp le_rfl))

end Cert.Spec
end
-- ==== Proof.PI.Arrays.lean ====
/- What the kernel's three results hold: the specification's values over the argument arrays. -/
module

public import proofs.«01_k».proof.Proof.PI.Track
public import proofs.«01_k».proof.Proof.Spec

@[expose] public section

set_option maxRecDepth 16384

noncomputable section

namespace Cert.KernelIdeal.Val

open Cert.KernelIdeal.Gen
open Idealize.ShloMosaic Idealize.ShloMosaic.TcCoe Idealize.ShloMosaic.Tactic

variable (m : (ℓ : Loc nD τ sig) → Buf (Elt Ideal) ℓ) (c : Dev nD)

/-- The argument arrays. -/
abbrev xArg : Spec.SX.Idx → EReal := m ((c : Thread nD τ).loc main_arg0)
/-- The weights as launched. -/
abbrev wArg : Spec.SW.Idx → EReal := m ((c : Thread nD τ).loc main_arg1)
/-- The weight scales as launched. -/
abbrev wsArg : Spec.SWS.Idx → EReal := m ((c : Thread nD τ).loc main_arg2)
/-- The activation scales as launched. -/
abbrev xsArg : Spec.SXS.Idx → EReal := m ((c : Thread nD τ).loc main_arg3)

/-! ## Before the launch -/

/-- The activations the launch reads: the argument with each group of eight heads and the feature columns exchanged, flattened to rows. -/
theorem v2_eq : V m c main_v2 = shapeCast S2097152x128 (transpose S16384x2x8x8x128 [0, 1, 3, 2, 4] (shapeCast S16384x2x8x8x128 (xArg m c) shapeCasts_S4x4096x16x1024_S16384x2x8x8x128) transposes_S16384x2x8x8x128_S16384x2x8x8x128_0_1_3_2_4) shapeCasts_S16384x2x8x8x128_S2097152x128 := by
  entry_read
  rfl

/-- The scales the launch reads: each head's scale across a row. -/
theorem v4_eq : V m c main_v4 = broadcastInDim S16x128 ![0, 1] bcast_S16x1_S16x128_0_1 (broadcastInDim S16x1 ![0] bcast_S16_S16x1_0 (xsArg m c)) := by
  entry_read
  rfl

/-- The row of head `h` and feature column `q` in token `(b, s)`'s rows, `P` rows to a token and `Q` to half the heads. -/
abbrev row (P Q : ℕ) (b : Fin 4) (s : Fin 4096) (h : Fin 16) (q : ℕ) : ℕ := P * (4096 * b.val + s.val) + Q * (h.val / 8) + 8 * q + h.val % 8

/-- The activations by rows. -/
theorem xa_eq (b : Fin 4) (s : Fin 4096) (h : Fin 16) (k : Fin 1024) :
    XA m c (row 128 64 b s h (k.val / 128)) (k.val % 128) = xArg m c (ix4 b s h k) := by
  have hb := b.isLt; have hs := s.isLt; have hh := h.isLt; have hk := k.isLt
  unfold XA
  rw [at2_mk _ (show row 128 64 b s h (k.val / 128) < 2097152 by unfold row; omega) (show k.val % 128 < 128 by omega), v2_eq]
  refine (shapeCast_apply (t := S2097152x128) _ _ _ (ix5 (⟨4096 * b.val + s.val, by omega⟩ : Fin 16384) (⟨h.val / 8, by omega⟩ : Fin 2) (⟨k.val / 128, by omega⟩ : Fin 8) (⟨h.val % 8, by omega⟩ : Fin 8) (⟨k.val % 128, by omega⟩ : Fin 128)) ?_).trans
    ((transpose_apply _ _ _ _ (ix5 (⟨4096 * b.val + s.val, by omega⟩ : Fin 16384) (⟨h.val / 8, by omega⟩ : Fin 2) (⟨h.val % 8, by omega⟩ : Fin 8) (⟨k.val / 128, by omega⟩ : Fin 8) (⟨k.val % 128, by omega⟩ : Fin 128)) ?_).trans
    (shapeCast_apply _ _ _ (ix4 b s h k) ?_))
  · rw [Shape.rowMajor_val_five, Shape.rowMajor_val_two]
    show ((((4096 * b.val + s.val) * 2 + h.val / 8) * 8 + k.val / 128) * 8 + h.val % 8) * 128 + k.val % 128 = row 128 64 b s h (k.val / 128) * 128 + k.val % 128
    unfold row; omega
  · intro a
    match a with | ⟨0, _⟩ => rfl | ⟨1, _⟩ => rfl | ⟨2, _⟩ => rfl | ⟨3, _⟩ => rfl | ⟨4, _⟩ => rfl
  · rw [Shape.rowMajor_val_five, Shape.rowMajor_val_four]
    show ((b.val * 4096 + s.val) * 16 + h.val) * 1024 + k.val = ((((4096 * b.val + s.val) * 2 + h.val / 8) * 8 + h.val % 8) * 8 + k.val / 128) * 128 + k.val % 128
    omega

/-- The scales, one row to a head. -/
theorem xsa_eq (h : Fin 16) {l : ℕ} (hl : l < 128) : XSA m c h.val l = xsArg m c (ix1 h) := by
  unfold XSA
  rw [at2_mk _ h.isLt hl, v4_eq]
  refine (broadcastInDim_apply (t := S16x128) _ _ _ _ (ix2 h (0 : Fin 1)) fun a => ?_).trans (broadcastInDim_apply _ _ _ _ (ix1 h) fun a => ?_)
  · match a with | ⟨0, _⟩ => rfl | ⟨1, _⟩ => rfl
  · match a with | ⟨0, _⟩ => rfl

/-- The weights the launch reads are the argument. -/
theorem wa_eq (h : Fin 16) (k : Fin 1024) (o : Fin 640) : WA m c h.val k.val o.val = wArg m c (ix3 h k o) := by
  unfold WA
  rw [V_main_arg1]
  exact (at3_of (α := EReal) (wArg m c) (ix3 h k o) rfl rfl rfl).symm

/-- The weight scales the launch reads are the argument. -/
theorem wsa_eq (h : Fin 16) (o : Fin 640) : WSA m c h.val o.val = wsArg m c (ix2 h o) := by
  unfold WSA
  rw [V_main_arg2]
  exact (at2_of (α := EReal) (wsArg m c) (ix2 h o) rfl rfl).symm

/-- The codes by rows. -/
theorem ca_eq (b : Fin 4) (s : Fin 4096) (h : Fin 16) (k : Fin 1024) :
    CA m c (row 128 64 b s h (k.val / 128)) (k.val % 128) = Spec.codes (xArg m c) (xsArg m c) (ix4 b s h k) := by
  have hb := b.isLt; have hs := s.isLt; have hh := h.isLt; have hk := k.isLt
  unfold CA code rcp
  rw [xa_eq, show 8 * (row 128 64 b s h (k.val / 128) % 128 / 64) + row 128 64 b s h (k.val / 128) % 8 = h.val by unfold row; omega,
    xsa_eq m c h (by omega)]
  rfl

/-! ## What the launch leaves -/

/-- The projected tokens' array. -/
def yRow (R l : ℕ) : EReal := outRow (fun r l => CA m c (16384 * (R / 10240) + r) l) (WA m c) (WSA m c) (XSA m c) (R % 10240) l

/-- The launch leaves the projected tokens' array at its rows of products. -/
theorem final4 : (dats m 0 c).arrAt 4 (cfgs 0).N = vec2 (n := 1310720) (m := 128) (yRow m c) := by
  refine (dats m 0 c).arrAt_eq_of_covers 4 _ (by decide +kernel) fun t hf y => ?_
  have h1 := flush4 t hf
  have h2 : t.val < 129 := t.isLt
  have hy : (y 0).val < 10240 := (y 0).isLt
  have e0 : (((cfg0.win 4).blk t).view.emb y 0).val = (t.val - 1) * 10240 + (y 0).val := by blk_simp [idx t]
  have e1 : (((cfg0.win 4).blk t).view.emb y 1).val = (y 1).val := by blk_simp [idx t]
  show (dats m 0 c).after 4 t y = yRow m c (((cfg0.win 4).blk t).view.emb y 0).val (((cfg0.win 4).blk t).view.emb y 1).val
  rw [after0_4, e0, e1]
  unfold yRow
  rw [show ((t.val - 1) * 10240 + (y 0).val) / 10240 = t.val - 1 by omega, show ((t.val - 1) * 10240 + (y 0).val) % 10240 = (y 0).val by omega]
  show outRow (prev m c t.val) _ _ _ (y 0).val (y 1).val = _
  congr 1
  funext r l
  unfold prev
  rw [if_neg (by omega), Nat.min_eq_left (show t.val - 1 ≤ 127 by omega)]

/-- The launch leaves the codes' array at the codes of every row. -/
theorem final5 : (dats m 0 c).arrAt 5 (cfgs 0).N = vec2 (n := 2097152) (m := 128) (CA m c) := by
  refine (dats m 0 c).arrAt_eq_of_covers 5 _ (by decide +kernel) fun t hf y => ?_
  have e0 : (((cfg0.win 5).blk t).view.emb y 0).val = 16384 * min t.val 127 + (y 0).val := by blk_simp [idx t]; omega
  have e1 : (((cfg0.win 5).blk t).view.emb y 1).val = (y 1).val := by blk_simp [idx t]
  show (dats m 0 c).after 5 t y = CA m c (((cfg0.win 5).blk t).view.emb y 0).val (((cfg0.win 5).blk t).view.emb y 1).val
  rw [after0_5, e0, e1]
  rfl

/-- The launch leaves the largest magnitude of each head across its row. -/
theorem final6 : (dats m 0 c).arrAt 6 (cfgs 0).N = vec2 (n := 16) (m := 128) (fun h _ => largest m c 129 h) := by
  refine (dats m 0 c).arrAt_eq_of_covers 6 _ (by decide +kernel) fun t hf y => ?_
  have ht : t.val = 128 := by
    have h2 : t.val < 129 := t.isLt
    have := (flush0_6 t).mp hf
    omega
  have e0 : (((cfg0.win 6).blk t).view.emb y 0).val = (y 0).val := by blk_simp [idx t]
  show (dats m 0 c).after 6 t y = largest m c 129 (((cfg0.win 6).blk t).view.emb y 0).val
  rw [after0_6, e0]
  show largest m c (t.val + 1) (y 0).val = _
  rw [ht]

/-! ## After the launch -/

/-- The windows' arrays are seven different buffers. -/
theorem arrRef_inj : Function.Injective (Pipeline.arrRef (cfgs 0).spec) := by decide

/-- The first result is the projected tokens' array with heads and output columns exchanged back. -/
theorem tail10 : Pipeline.afterTail₀ cfgs (dats m) 0 (V0 m) [hostOps1] c main_v10 = shapeCast S4x4096x16x640 (transpose S16384x2x8x5x128 [0, 1, 3, 2, 4] (shapeCast S16384x2x5x8x128 ((dats m 0 c).arrAt 4 (cfgs 0).N) shapeCasts_S1310720x128_S16384x2x5x8x128) transposes_S16384x2x5x8x128_S16384x2x8x5x128_0_1_3_2_4) shapeCasts_S16384x2x8x5x128_S4x4096x16x640 := by
  unfold Pipeline.afterTail₀
  rw [show ([hostOps1] : List (List (HloOp τ sig (Elt Ideal)))).flatten = hostOps1 from rfl]
  entry_read
  exact congrArg (fun Y => shapeCast S4x4096x16x640 (transpose S16384x2x8x5x128 [0, 1, 3, 2, 4] (shapeCast S16384x2x5x8x128 Y shapeCasts_S1310720x128_S16384x2x5x8x128) transposes_S16384x2x5x8x128_S16384x2x8x5x128_0_1_3_2_4) shapeCasts_S16384x2x8x5x128_S4x4096x16x640)
    (Pipeline.withArrays_arr (cfgs 0).spec arrRef_inj c (V0 m c) (fun w => (dats m 0 c).arrAt w (cfgs 0).N) 4)

/-- The second result is the codes' array with heads and feature columns exchanged back. -/
theorem tail11 : Pipeline.afterTail₀ cfgs (dats m) 0 (V0 m) [hostOps1] c main_v11 = shapeCast S4x4096x16x1024 (transpose S16384x2x8x8x128 [0, 1, 3, 2, 4] (shapeCast S16384x2x8x8x128 ((dats m 0 c).arrAt 5 (cfgs 0).N) shapeCasts_S2097152x128_S16384x2x8x8x128) transposes_S16384x2x8x8x128_S16384x2x8x8x128_0_1_3_2_4) shapeCasts_S16384x2x8x8x128_S4x4096x16x1024 := by
  unfold Pipeline.afterTail₀
  rw [show ([hostOps1] : List (List (HloOp τ sig (Elt Ideal)))).flatten = hostOps1 from rfl]
  entry_read
  exact congrArg (fun Y => shapeCast S4x4096x16x1024 (transpose S16384x2x8x8x128 [0, 1, 3, 2, 4] (shapeCast S16384x2x8x8x128 Y shapeCasts_S2097152x128_S16384x2x8x8x128) transposes_S16384x2x8x8x128_S16384x2x8x8x128_0_1_3_2_4) shapeCasts_S16384x2x8x8x128_S4x4096x16x1024)
    (Pipeline.withArrays_arr (cfgs 0).spec arrRef_inj c (V0 m c) (fun w => (dats m 0 c).arrAt w (cfgs 0).N) 5)

/-- The third result is the first column of the array of largest magnitudes. -/
theorem tail13 : Pipeline.afterTail₀ cfgs (dats m) 0 (V0 m) [hostOps1] c main_v13 = shapeCast S16 (extractStridedSlice S16x1 ![0, 0] ((dats m 0 c).arrAt 6 (cfgs 0).N) slices_S16x128_S16x1_0_0) shapeCasts_S16x1_S16 := by
  unfold Pipeline.afterTail₀
  rw [show ([hostOps1] : List (List (HloOp τ sig (Elt Ideal)))).flatten = hostOps1 from rfl]
  entry_read
  exact congrArg (fun Y => shapeCast S16 (extractStridedSlice S16x1 ![0, 0] Y slices_S16x128_S16x1_0_0) shapeCasts_S16x1_S16)
    (Pipeline.withArrays_arr (cfgs 0).spec arrRef_inj c (V0 m c) (fun w => (dats m 0 c).arrAt w (cfgs 0).N) 6)

end Cert.KernelIdeal.Val
end
-- ==== Proof.PI.Results.lean ====
/- The kernel's results are the specification's. -/
module

public import proofs.«01_k».proof.Proof.PI.Arrays

@[expose] public section

set_option maxRecDepth 16384

noncomputable section

namespace Cert.KernelIdeal.Val

open Cert.KernelIdeal.Gen
open Idealize.ShloMosaic Idealize.ShloMosaic.TcCoe Idealize.ShloMosaic.Tactic

variable (m : (ℓ : Loc nD τ sig) → Buf (Elt Ideal) ℓ) (c : Dev nD)

/-- The projected tokens by rows. -/
theorem yRow_eq (b : Fin 4) (s : Fin 4096) (h : Fin 16) (o : Fin 640) :
    yRow m c (row 80 40 b s h (o.val / 128)) (o.val % 128)
      = Spec.tokens (xArg m c) (wArg m c) (wsArg m c) (xsArg m c) (ix4 b s h o) := by
  have hb := b.isLt; have hs := s.isLt; have hh := h.isLt; have ho := o.isLt
  obtain ⟨n, hn⟩ : ∃ n, n = 4096 * b.val + s.val := ⟨_, rfl⟩
  have hR : row 80 40 b s h (o.val / 128) = 10240 * (n / 128) + (80 * (n % 128) + 40 * (h.val / 8) + 8 * (o.val / 128) + h.val % 8) := by
    unfold row; omega
  have hq : row 80 40 b s h (o.val / 128) / 10240 = n / 128 := by rw [hR]; omega
  have hr : row 80 40 b s h (o.val / 128) % 10240 = 80 * (n % 128) + 40 * (h.val / 8) + 8 * (o.val / 128) + h.val % 8 := by rw [hR]; omega
  unfold yRow
  rw [hq, hr]
  unfold outRow
  rw [show (80 * (n % 128) + 40 * (h.val / 8) + 8 * (o.val / 128) + h.val % 8) / 80 = n % 128 by omega,
    show (80 * (n % 128) + 40 * (h.val / 8) + 8 * (o.val / 128) + h.val % 8) / 40 % 2 = h.val / 8 by omega,
    show (80 * (n % 128) + 40 * (h.val / 8) + 8 * (o.val / 128) + h.val % 8) % 8 = h.val % 8 by omega,
    show (80 * (n % 128) + 40 * (h.val / 8) + 8 * (o.val / 128) + h.val % 8) / 8 % 5 = o.val / 128 by omega,
    show 8 * (h.val / 8) + h.val % 8 = h.val by omega, show 128 * (o.val / 128) + o.val % 128 = o.val by omega]
  rw [wsa_eq, xsa_eq m c h (by omega), mul_comm (wsArg m c (ix2 h o)) (xsArg m c (ix1 h))]
  refine congrArg (· * (xsArg m c (ix1 h) * wsArg m c (ix2 h o))) (Finset.sum_congr rfl fun k _ => ?_)
  rw [wa_eq]
  refine congrArg (· * wArg m c (ix3 h k o)) ?_
  show CA m c (16384 * (n / 128) + (128 * (n % 128) + 64 * (h.val / 8) + 8 * (k.val / 128) + h.val % 8)) (k.val % 128) = _
  rw [show 16384 * (n / 128) + (128 * (n % 128) + 64 * (h.val / 8) + 8 * (k.val / 128) + h.val % 8) = row 128 64 b s h (k.val / 128) by unfold row; omega]
  exact ca_eq m c b s h k

/-- The first result: the projected tokens. -/
theorem result10 : Pipeline.afterTail₀ cfgs (dats m) 0 (V0 m) [hostOps1] c main_v10
    = Spec.tokens (xArg m c) (wArg m c) (wsArg m c) (xsArg m c) := by
  rw [tail10, final4]
  funext y
  obtain ⟨b, s, h, o, rfl⟩ : ∃ (b : Fin 4) (s : Fin 4096) (h : Fin 16) (o : Fin 640), y = ix4 b s h o := ⟨y 0, y 1, y 2, y 3, eq_ix4 y⟩
  have hb := b.isLt; have hs := s.isLt; have hh := h.isLt; have ho := o.isLt
  refine (shapeCast_apply _ _ _ (ix5 (⟨4096 * b.val + s.val, by omega⟩ : Fin 16384) (⟨h.val / 8, by omega⟩ : Fin 2) (⟨h.val % 8, by omega⟩ : Fin 8) (⟨o.val / 128, by omega⟩ : Fin 5) (⟨o.val % 128, by omega⟩ : Fin 128)) ?_).trans
    ((transpose_apply _ _ _ _ (ix5 (⟨4096 * b.val + s.val, by omega⟩ : Fin 16384) (⟨h.val / 8, by omega⟩ : Fin 2) (⟨o.val / 128, by omega⟩ : Fin 5) (⟨h.val % 8, by omega⟩ : Fin 8) (⟨o.val % 128, by omega⟩ : Fin 128)) ?_).trans
    ((shapeCast_apply _ _ _ (ix2 (⟨row 80 40 b s h (o.val / 128), by unfold row; omega⟩ : Fin 1310720) (⟨o.val % 128, by omega⟩ : Fin 128)) ?_).trans
    (yRow_eq m c b s h o)))
  · rw [Shape.rowMajor_val_five, Shape.rowMajor_val_four]
    show ((((4096 * b.val + s.val) * 2 + h.val / 8) * 8 + h.val % 8) * 5 + o.val / 128) * 128 + o.val % 128 = ((b.val * 4096 + s.val) * 16 + h.val) * 640 + o.val
    omega
  · intro a
    match a with | ⟨0, _⟩ => rfl | ⟨1, _⟩ => rfl | ⟨2, _⟩ => rfl | ⟨3, _⟩ => rfl | ⟨4, _⟩ => rfl
  · rw [Shape.rowMajor_val_five, Shape.rowMajor_val_two]
    show row 80 40 b s h (o.val / 128) * 128 + o.val % 128 = ((((4096 * b.val + s.val) * 2 + h.val / 8) * 5 + o.val / 128) * 8 + h.val % 8) * 128 + o.val % 128
    unfold row; omega

/-- The second result: the codes. -/
theorem result11 : Pipeline.afterTail₀ cfgs (dats m) 0 (V0 m) [hostOps1] c main_v11 = Spec.codes (xArg m c) (xsArg m c) := by
  rw [tail11, final5]
  funext y
  obtain ⟨b, s, h, k, rfl⟩ : ∃ (b : Fin 4) (s : Fin 4096) (h : Fin 16) (k : Fin 1024), y = ix4 b s h k := ⟨y 0, y 1, y 2, y 3, eq_ix4 y⟩
  have hb := b.isLt; have hs := s.isLt; have hh := h.isLt; have hk := k.isLt
  refine (shapeCast_apply _ _ _ (ix5 (⟨4096 * b.val + s.val, by omega⟩ : Fin 16384) (⟨h.val / 8, by omega⟩ : Fin 2) (⟨h.val % 8, by omega⟩ : Fin 8) (⟨k.val / 128, by omega⟩ : Fin 8) (⟨k.val % 128, by omega⟩ : Fin 128)) ?_).trans
    ((transpose_apply _ _ _ _ (ix5 (⟨4096 * b.val + s.val, by omega⟩ : Fin 16384) (⟨h.val / 8, by omega⟩ : Fin 2) (⟨k.val / 128, by omega⟩ : Fin 8) (⟨h.val % 8, by omega⟩ : Fin 8) (⟨k.val % 128, by omega⟩ : Fin 128)) ?_).trans
    ((shapeCast_apply _ _ _ (ix2 (⟨row 128 64 b s h (k.val / 128), by unfold row; omega⟩ : Fin 2097152) (⟨k.val % 128, by omega⟩ : Fin 128)) ?_).trans
    (ca_eq m c b s h k)))
  · rw [Shape.rowMajor_val_five, Shape.rowMajor_val_four]
    show ((((4096 * b.val + s.val) * 2 + h.val / 8) * 8 + h.val % 8) * 8 + k.val / 128) * 128 + k.val % 128 = ((b.val * 4096 + s.val) * 16 + h.val) * 1024 + k.val
    omega
  · intro a
    match a with | ⟨0, _⟩ => rfl | ⟨1, _⟩ => rfl | ⟨2, _⟩ => rfl | ⟨3, _⟩ => rfl | ⟨4, _⟩ => rfl
  · rw [Shape.rowMajor_val_five, Shape.rowMajor_val_two]
    show row 128 64 b s h (k.val / 128) * 128 + k.val % 128 = ((((4096 * b.val + s.val) * 2 + h.val / 8) * 8 + k.val / 128) * 8 + h.val % 8) * 128 + k.val % 128
    unfold row; omega

/-- The magnitudes met after the last step are those of every activation of the head. -/
theorem largest_last (h : Fin 16) : Spec.IsLargest (xArg m c) h (largest m c 129 h.val) := by
  intro z
  have hh := h.isLt
  constructor
  · intro g b s k
    refine le_trans ?_ g
    have hb := b.isLt; have hs := s.isLt; have hk := k.isLt
    refine le_sInf fun z' hz => ?_
    have := (hz (k.val % 128) (by omega)).2 ((4096 * b.val + s.val) / 128) ((4096 * b.val + s.val) % 128) (k.val / 128) (by omega) (by omega) (by omega)
    rw [show 16384 * min ((4096 * b.val + s.val) / 128) 127 + (128 * ((4096 * b.val + s.val) % 128) + 64 * (h.val / 8) + 8 * (k.val / 128) + h.val % 8)
      = row 128 64 b s h (k.val / 128) by unfold row; omega, xa_eq] at this
    exact this
  · intro g
    refine sInf_le fun l hl => ⟨?_, ?_⟩
    · refine le_trans ?_ (g 0 0 0)
      rcases le_total 0 (xArg m c (ix4 0 0 h 0)) with h0 | h0
      · exact le_max_of_le_left h0
      · exact le_max_of_le_right (EReal.neg_nonneg.mpr h0)
    · intro s t k hs ht hk
      have := g ⟨(128 * min s 127 + t) / 4096, by omega⟩ ⟨(128 * min s 127 + t) % 4096, by omega⟩ ⟨128 * k + l, by omega⟩
      rw [← xa_eq m c] at this
      unfold ab
      have e1 : row 128 64 (⟨(128 * min s 127 + t) / 4096, by omega⟩ : Fin 4) (⟨(128 * min s 127 + t) % 4096, by omega⟩ : Fin 4096) h ((128 * k + l) / 128)
          = 16384 * min s 127 + (128 * t + 64 * (h.val / 8) + 8 * k + h.val % 8) := by
        show 128 * (4096 * ((128 * min s 127 + t) / 4096) + (128 * min s 127 + t) % 4096) + 64 * (h.val / 8) + 8 * ((128 * k + l) / 128) + h.val % 8 = _
        omega
      have e2 : (128 * k + l) % 128 = l := by omega
      have e3 : ((⟨128 * k + l, by omega⟩ : Fin 1024).val) = 128 * k + l := rfl
      simp only [e1, e2] at this
      exact this

/-- The third result: the largest magnitude of each head. -/
theorem result13 (h : Fin 16) : Spec.IsLargest (xArg m c) h (Pipeline.afterTail₀ cfgs (dats m) 0 (V0 m) [hostOps1] c main_v13 (ix1 h)) := by
  rw [tail13, final6]
  have e : shapeCast S16 (extractStridedSlice S16x1 ![0, 0] (vec2 (n := 16) (m := 128) (fun h _ => largest m c 129 h)) slices_S16x128_S16x1_0_0) shapeCasts_S16x1_S16 (ix1 h)
      = largest m c 129 h.val := by
    refine (shapeCast_apply _ _ _ (ix2 h (0 : Fin 1)) ?_).trans ((extractStridedSlice_apply _ _ _ _ (ix2 h (0 : Fin 128)) fun a => ?_).trans rfl)
    · rw [Shape.rowMajor_val_two, Shape.rowMajor_val_one]
      show h.val * 1 + 0 = h.val
      omega
    · match a with | ⟨0, _⟩ => exact (Nat.zero_add _).symm | ⟨1, _⟩ => rfl
  rw [e]
  exact largest_last m c h

end Cert.KernelIdeal.Val
end
-- ==== Proof.RI.Arrays.lean ====
/- What the reference's results hold: its payloads over the argument arrays. -/
module

public import proofs.«01_k».proof.Proof.Gen.ReferenceIdeal.Frame
public import Idealize.ShloMosaic.Lib.Pipeline.ValueKit

@[expose] public section

set_option maxRecDepth 16384

noncomputable section

namespace Cert.ReferenceIdeal.Val

open Cert.ReferenceIdeal.Gen
open Idealize.ShloMosaic Idealize.ShloMosaic.TcCoe Idealize.ShloMosaic.Tactic

variable (m : (ℓ : Loc nD τ sig) → Buf (Elt Ideal) ℓ) (c : Dev nD)

/-- Every window is its whole array. -/
theorem idx : ∀ t : Fin cfg0.N, win0_0.index t = ![0, 0, 0, 0] ∧ win0_1.index t = ![0, 0, 0] ∧ win0_2.index t = ![0, 0] ∧ win0_3.index t = ![0]
    ∧ win0_4.index t = ![0, 0, 0, 0] ∧ win0_5.index t = ![0, 0, 0, 0] ∧ win0_6.index t = ![0] :=
  (by decide +kernel : ∀ t : Fin grid0.N, _)

/-- The block of activations is the whole argument. -/
theorem iblk0 (t : Fin cfg0.N) : iblk m c 0 t = m ((c : Thread nD τ).loc main_arg0) := by blk_ext! [iblk, V, idx t]
/-- The block of weights is the whole argument. -/
theorem iblk1 (t : Fin cfg0.N) : iblk m c 1 t = m ((c : Thread nD τ).loc main_arg1) := by blk_ext! [iblk, V, idx t]
/-- The block of weight scales is the whole argument. -/
theorem iblk2 (t : Fin cfg0.N) : iblk m c 2 t = m ((c : Thread nD τ).loc main_arg2) := by blk_ext! [iblk, V, idx t]
/-- The block of activation scales is the whole argument. -/
theorem iblk3 (t : Fin cfg0.N) : iblk m c 3 t = m ((c : Thread nD τ).loc main_arg3) := by blk_ext! [iblk, V, idx t]

/-- The projected tokens. -/
theorem final4 : (dats m 0 c).arrAt 4 (cfgs 0).N = k0_pay4 (m ((c : Thread nD τ).loc main_arg0)) (m ((c : Thread nD τ).loc main_arg3)) (m ((c : Thread nD τ).loc main_arg1)) (m ((c : Thread nD τ).loc main_arg2)) := by
  refine (dats m 0 c).arrAt_eq_of_after_last 4 t0_0 (by decide +kernel) _ fun j => ?_
  blk_simp
  rw [after0_4, iblk0, iblk1, iblk2, iblk3]
  frame_out

/-- The codes. -/
theorem final5 : (dats m 0 c).arrAt 5 (cfgs 0).N = k0_pay3 (m ((c : Thread nD τ).loc main_arg0)) (m ((c : Thread nD τ).loc main_arg3)) := by
  refine (dats m 0 c).arrAt_eq_of_after_last 5 t0_0 (by decide +kernel) _ fun j => ?_
  blk_simp
  rw [after0_5, iblk0, iblk1, iblk2, iblk3]
  frame_out

/-- The largest magnitudes. -/
theorem final6 : (dats m 0 c).arrAt 6 (cfgs 0).N = k0_pay2 (m ((c : Thread nD τ).loc main_arg0)) := by
  refine (dats m 0 c).arrAt_eq_of_after_last 6 t0_0 (by decide +kernel) _ fun j => ?_
  blk_simp
  rw [after0_6, iblk0, iblk1, iblk2, iblk3]
  frame_out

end Cert.ReferenceIdeal.Val
end
-- ==== Proof.RI.Val.lean ====
/- The reference's payloads at an index. -/
module

public import proofs.«01_k».proof.Proof.Gen.ReferenceIdeal.Skeleton
public import proofs.«01_k».proof.Proof.Spec

@[expose] public section

set_option maxRecDepth 16384

noncomputable section

namespace Cert.ReferenceIdeal.Val

open Cert.ReferenceIdeal.Gen
open Idealize.ShloMosaic Idealize.ShloMosaic.TcCoe Idealize.ShloMosaic.Tactic

/-- A vector over the heads, broadcast to the activations. -/
theorem perHead (v : S16.Idx → EReal) (b : Fin 4) (s : Fin 4096) (h : Fin 16) (k : Fin 1024) :
    broadcastTo S4x4096x16x1024 (shapeCast S1x1x16x1 v shapeCasts_S16_S1x1x16x1) broadcasts_S1x1x16x1_S4x4096x16x1024 (ix4 b s h k) = v (ix1 h) := by
  refine (broadcastTo_apply _ _ (ix4 b s h k) (ix4 (0 : Fin 1) (0 : Fin 1) h (0 : Fin 1)) fun a => ?_).trans (shapeCast_apply _ _ _ (ix1 h) ?_)
  · match a with | ⟨0, _⟩ => rfl | ⟨1, _⟩ => rfl | ⟨2, _⟩ => rfl | ⟨3, _⟩ => rfl
  · rw [Shape.rowMajor_val_one, Shape.rowMajor_val_four]
    show h.val = ((0 * 1 + 0) * 16 + h.val) * 1 + 0
    omega

/-- A matrix over heads and output features, broadcast to the projected tokens. -/
theorem perOut (v : S16x640.Idx → EReal) (b : Fin 4) (s : Fin 4096) (h : Fin 16) (o : Fin 640) :
    broadcastTo S4x4096x16x640 (shapeCast S1x1x16x640 v shapeCasts_S16x640_S1x1x16x640) broadcasts_S1x1x16x640_S4x4096x16x640 (ix4 b s h o) = v (ix2 h o) := by
  refine (broadcastTo_apply _ _ (ix4 b s h o) (ix4 (0 : Fin 1) (0 : Fin 1) h o) fun a => ?_).trans (shapeCast_apply _ _ _ (ix2 h o) ?_)
  · match a with | ⟨0, _⟩ => rfl | ⟨1, _⟩ => rfl | ⟨2, _⟩ => rfl | ⟨3, _⟩ => rfl
  · rw [Shape.rowMajor_val_two, Shape.rowMajor_val_four]
    show h.val * 640 + o.val = ((0 * 1 + 0) * 16 + h.val) * 640 + o.val
    omega

/-- A vector over the heads, broadcast over the output features. -/
theorem perRow (v : S16.Idx → EReal) (h : Fin 16) (o : Fin 640) :
    broadcastTo S16x640 (shapeCast S16x1 v shapeCasts_S16_S16x1) broadcasts_S16x1_S16x640 (ix2 h o) = v (ix1 h) := by
  refine (broadcastTo_apply _ _ (ix2 h o) (ix2 h (0 : Fin 1)) fun a => ?_).trans (shapeCast_apply _ _ _ (ix1 h) ?_)
  · match a with | ⟨0, _⟩ => rfl | ⟨1, _⟩ => rfl
  · rw [Shape.rowMajor_val_one, Shape.rowMajor_val_two]
    show h.val = h.val * 1 + 0
    omega

/-- The codes. -/
theorem codes_eq (x : Vec Ideal S4x4096x16x1024 .bf16) (xs : Vec Ideal S16 .f32) : k0_pay3 (F := Ideal) x xs = Spec.codes x xs := by
  funext y
  rw [eq_ix4 y]
  exact congrArg (fun v : EReal => Spec.quant (x (ix4 (y 0) (y 1) (y 2) (y 3))) v) (perHead _ (y 0) (y 1) (y 2) (y 3))

/-- The product of the weights and the codes. -/
theorem product_eq (w : FVec Ideal S16x1024x640 .fp8e4m3) (c : FVec Ideal S4x4096x16x1024 .fp8e4m3) (b : Fin 4) (s : Fin 4096) (h : Fin 16) (o : Fin 640) :
    (FloatOps.matmul dot_S16x1024x640_S4x4096x16x1024_S16x640x4x4096_1_3_2_01_0_2 none w c (constant (F := Ideal) S16x640x4x4096 .f32 0x00000000#32) (ix4 h o b s) : EReal)
      = ∑ k : Fin 1024, (c (ix4 b s h k) : EReal) * (w (ix3 h k o) : EReal) := by
  refine (Ideal.matmul_constant_zero_apply _ none _ _ _).trans ?_
  let e : Fin 1024 ≃ dot_S16x1024x640_S4x4096x16x1024_S16x640x4x4096_1_3_2_01_0_2.contr.Idx :=
    ⟨fun k => fun | ⟨0, _⟩ => k, fun y => y ⟨0, Nat.zero_lt_one⟩, fun k => rfl, fun y => funext fun | ⟨0, _⟩ => rfl⟩
  rw [← Equiv.sum_comp e]
  refine Finset.sum_congr rfl fun k _ => ?_
  rw [mul_comm]
  refine congrArg₂ (fun u v : EReal => u * v) (congrArg c (funext fun a => ?_)) (congrArg w (funext fun a => ?_))
  · match a with | ⟨0, _⟩ => rfl | ⟨1, _⟩ => rfl | ⟨2, _⟩ => rfl | ⟨3, _⟩ => rfl
  · match a with | ⟨0, _⟩ => rfl | ⟨1, _⟩ => rfl | ⟨2, _⟩ => rfl

/-- The projected tokens. -/
theorem tokens_eq (x : Vec Ideal S4x4096x16x1024 .bf16) (xs : Vec Ideal S16 .f32) (w : Vec Ideal S16x1024x640 .fp8e4m3) (ws : Vec Ideal S16x640 .f32) :
    k0_pay4 (F := Ideal) x xs w ws = Spec.tokens x w ws xs := by
  funext y
  rw [eq_ix4 y]
  generalize y 0 = b; generalize y 1 = s; generalize y 2 = h; generalize y 3 = o
  refine congrArg₂ (fun u v : EReal => u * v) ?_ ((perOut _ b s h o).trans (congrArg (fun v : EReal => v * ws (ix2 h o)) (perRow xs h o)))
  refine (transpose_apply _ _ _ (ix4 b s h o) (ix4 h o b s) fun a => ?_).trans ((product_eq w _ b s h o).trans ?_)
  · match a with | ⟨0, _⟩ => rfl | ⟨1, _⟩ => rfl | ⟨2, _⟩ => rfl | ⟨3, _⟩ => rfl
  · rw [codes_eq]; rfl

/-- The largest magnitudes. -/
theorem largest_eq (x : Vec Ideal S4x4096x16x1024 .bf16) (h : Fin 16) : Spec.IsLargest x h (k0_pay2 (F := Ideal) x (ix1 h)) := by
  intro z
  have e : k0_pay2 (F := Ideal) x (ix1 h) = (Finset.univ.filter fun i => reduces_S4x4096x16x1024_S16.drop i = ix1 h).fold max
      (FloatOps.ofBits (F := Ideal) .f32 0xFF800000#32) (fun i => max (x i) (-(x i))) :=
    multiReduction_maximumf_eq_fold (F := Ideal) _ _ reduces_S4x4096x16x1024_S16 (.inl rfl) rfl (ix1 h)
  rw [e, Finset.fold_max_le]
  have hbot : (FloatOps.ofBits (F := Ideal) .f32 0xFF800000#32 : EReal) = ⊥ := by
    show Ideal.ofBits .f32 0xFF800000#32 = ⊥
    simp [Ideal.ofBits, Ideal.ieee]
  rw [hbot]
  constructor
  · rintro ⟨-, g⟩ b s k
    refine g (ix4 b s h k) (Finset.mem_filter.mpr ⟨Finset.mem_univ _, funext fun a => ?_⟩)
    match a with | ⟨0, _⟩ => exact Fin.ext rfl
  · intro g
    refine ⟨bot_le, fun i hi => ?_⟩
    have hd := (Finset.mem_filter.mp hi).2
    have h2 : i 2 = h := Fin.ext (congrArg Fin.val (congrFun hd 0))
    have := g (i 0) (i 1) (i 3)
    rw [← h2, ← eq_ix4 i] at this
    exact this

end Cert.ReferenceIdeal.Val
end
-- ==== Proof.Algebraic.lean ====
/- The kernel and the reference, over the extended reals: from equal arguments, equal results. -/
module

public import proofs.«01_k».proof.Defs
public import proofs.«01_k».proof.Proof.PI.Results
public import proofs.«01_k».proof.Proof.Gen.ReferenceIdeal.Frame
public import proofs.«01_k».proof.Proof.RI.Arrays
public import proofs.«01_k».proof.Proof.RI.Val

@[expose] public section

set_option maxRecDepth 16384

noncomputable section

namespace Cert.Algebraic

open Idealize.ShloMosaic Idealize.ShloMosaic.TcCoe Idealize.SL.Sem

/-- What the kernel leaves: its three results, its arguments unchanged. -/
theorem kernel_run (m : (ℓ : Loc KernelIdeal.nD KernelIdeal.τ KernelIdeal.sig) → Buf (Elt Ideal) ℓ) (g : Dev KernelIdeal.nD → PrngReg) :
    θ_run (KernelIdeal.defs (F := Ideal)) (onTc (τ := KernelIdeal.τ) (KernelIdeal.main (F := Ideal))) ⟨m, fun _ => 0, g⟩ (fun r => ∀ c : Dev KernelIdeal.nD,
      r.2.mem ((c.tc : Thread KernelIdeal.nD KernelIdeal.τ).loc KernelIdeal.main_v10)
        = Spec.tokens (KernelIdeal.Val.xArg m c) (KernelIdeal.Val.wArg m c) (KernelIdeal.Val.wsArg m c) (KernelIdeal.Val.xsArg m c)
      ∧ r.2.mem ((c.tc : Thread KernelIdeal.nD KernelIdeal.τ).loc KernelIdeal.main_v11) = Spec.codes (KernelIdeal.Val.xArg m c) (KernelIdeal.Val.xsArg m c)
      ∧ r.2.mem ((c.tc : Thread KernelIdeal.nD KernelIdeal.τ).loc KernelIdeal.main_v13)
        = Pipeline.afterTail₀ KernelIdeal.cfgs (KernelIdeal.Val.dats m) 0 (KernelIdeal.Gen.V0 m) [KernelIdeal.Gen.hostOps1] c KernelIdeal.main_v13
      ∧ r.2.mem ((c.tc : Thread KernelIdeal.nD KernelIdeal.τ).loc KernelIdeal.main_arg0) = m ((c.tc : Thread KernelIdeal.nD KernelIdeal.τ).loc KernelIdeal.main_arg0)
      ∧ r.2.mem ((c.tc : Thread KernelIdeal.nD KernelIdeal.τ).loc KernelIdeal.main_arg1) = m ((c.tc : Thread KernelIdeal.nD KernelIdeal.τ).loc KernelIdeal.main_arg1)
      ∧ r.2.mem ((c.tc : Thread KernelIdeal.nD KernelIdeal.τ).loc KernelIdeal.main_arg2) = m ((c.tc : Thread KernelIdeal.nD KernelIdeal.τ).loc KernelIdeal.main_arg2)
      ∧ r.2.mem ((c.tc : Thread KernelIdeal.nD KernelIdeal.τ).loc KernelIdeal.main_arg3) = m ((c.tc : Thread KernelIdeal.nD KernelIdeal.τ).loc KernelIdeal.main_arg3)) :=
  (θ_run KernelIdeal.defs _ _).mono (fun _ h c =>
    ⟨((h.1 c).2 KernelIdeal.main_v10 (Pipeline.mem_restRefs_of _ (by decide) (by decide))).trans (KernelIdeal.Val.result10 m c),
      ((h.1 c).2 KernelIdeal.main_v11 (Pipeline.mem_restRefs_of _ (by decide) (by decide))).trans (KernelIdeal.Val.result11 m c),
      (h.1 c).2 KernelIdeal.main_v13 (Pipeline.mem_restRefs_of _ (by decide) (by decide)), h.2 c⟩)
    (θ_run_and (KernelIdeal.Val.run_main m g) (KernelIdeal.Gen.frame_of m g (KernelIdeal.Val.dats m) (KernelIdeal.Val.A_eq m) (KernelIdeal.Val.run_main m g)))

/-- What the reference leaves: its three results, its arguments unchanged. -/
theorem reference_run (m : (ℓ : Loc ReferenceIdeal.nD ReferenceIdeal.τ ReferenceIdeal.sig) → Buf (Elt Ideal) ℓ) (g : Dev ReferenceIdeal.nD → PrngReg) :
    θ_run (ReferenceIdeal.defs (F := Ideal)) (onTc (τ := ReferenceIdeal.τ) (ReferenceIdeal.main (F := Ideal))) ⟨m, fun _ => 0, g⟩ (fun r => ∀ c : Dev ReferenceIdeal.nD,
      r.2.mem ((c.tc : Thread ReferenceIdeal.nD ReferenceIdeal.τ).loc ReferenceIdeal.main_v0_0)
        = Spec.tokens (m ((c.tc : Thread ReferenceIdeal.nD ReferenceIdeal.τ).loc ReferenceIdeal.main_arg0)) (m ((c.tc : Thread ReferenceIdeal.nD ReferenceIdeal.τ).loc ReferenceIdeal.main_arg1))
          (m ((c.tc : Thread ReferenceIdeal.nD ReferenceIdeal.τ).loc ReferenceIdeal.main_arg2)) (m ((c.tc : Thread ReferenceIdeal.nD ReferenceIdeal.τ).loc ReferenceIdeal.main_arg3))
      ∧ r.2.mem ((c.tc : Thread ReferenceIdeal.nD ReferenceIdeal.τ).loc ReferenceIdeal.main_v0_1)
        = Spec.codes (m ((c.tc : Thread ReferenceIdeal.nD ReferenceIdeal.τ).loc ReferenceIdeal.main_arg0)) (m ((c.tc : Thread ReferenceIdeal.nD ReferenceIdeal.τ).loc ReferenceIdeal.main_arg3))
      ∧ r.2.mem ((c.tc : Thread ReferenceIdeal.nD ReferenceIdeal.τ).loc ReferenceIdeal.main_v0_2)
        = ReferenceIdeal.Gen.k0_pay2 (m ((c.tc : Thread ReferenceIdeal.nD ReferenceIdeal.τ).loc ReferenceIdeal.main_arg0))
      ∧ r.2.mem ((c.tc : Thread ReferenceIdeal.nD ReferenceIdeal.τ).loc ReferenceIdeal.main_arg0) = m ((c.tc : Thread ReferenceIdeal.nD ReferenceIdeal.τ).loc ReferenceIdeal.main_arg0)
      ∧ r.2.mem ((c.tc : Thread ReferenceIdeal.nD ReferenceIdeal.τ).loc ReferenceIdeal.main_arg1) = m ((c.tc : Thread ReferenceIdeal.nD ReferenceIdeal.τ).loc ReferenceIdeal.main_arg1)
      ∧ r.2.mem ((c.tc : Thread ReferenceIdeal.nD ReferenceIdeal.τ).loc ReferenceIdeal.main_arg2) = m ((c.tc : Thread ReferenceIdeal.nD ReferenceIdeal.τ).loc ReferenceIdeal.main_arg2)
      ∧ r.2.mem ((c.tc : Thread ReferenceIdeal.nD ReferenceIdeal.τ).loc ReferenceIdeal.main_arg3) = m ((c.tc : Thread ReferenceIdeal.nD ReferenceIdeal.τ).loc ReferenceIdeal.main_arg3)) :=
  (θ_run ReferenceIdeal.defs _ _).mono (fun _ h c =>
    ⟨((h.1 c).1 4).trans ((ReferenceIdeal.Val.final4 m c).trans (ReferenceIdeal.Val.tokens_eq _ _ _ _)),
      ((h.1 c).1 5).trans ((ReferenceIdeal.Val.final5 m c).trans (ReferenceIdeal.Val.codes_eq _ _)),
      ((h.1 c).1 6).trans (ReferenceIdeal.Val.final6 m c), h.2 c⟩)
    (θ_run_and (ReferenceIdeal.Gen.run_main m g) (ReferenceIdeal.Gen.unchanged m g))

/-- Both programs' largest magnitudes of the same activations are equal. -/
theorem largest_eq (m : (ℓ : Loc KernelIdeal.nD KernelIdeal.τ KernelIdeal.sig) → Buf (Elt Ideal) ℓ) (c : Dev KernelIdeal.nD) :
    ReferenceIdeal.Gen.k0_pay2 (F := Ideal) (KernelIdeal.Val.xArg m c)
      = Pipeline.afterTail₀ KernelIdeal.cfgs (KernelIdeal.Val.dats m) 0 (KernelIdeal.Gen.V0 m) [KernelIdeal.Gen.hostOps1] c KernelIdeal.main_v13 := by
  funext j
  obtain ⟨h, rfl⟩ : ∃ h : Fin 16, j = ix1 h := ⟨j 0, eq_ix1 j⟩
  exact (ReferenceIdeal.Val.largest_eq _ h).eq (KernelIdeal.Val.result13 m c h)

/-- From equal arguments the two programs end with equal results. -/
theorem algebraic : @algebraic_KernelIdeal_ReferenceIdeal KernelIdeal.Gen.facts ReferenceIdeal.Gen.facts := by
  intro m g m' g' _ hm
  refine ⟨_, _, _, kernel_run m g, (θ_run ReferenceIdeal.defs _ _).mono (fun r h c => ?_) (reference_run m' g')⟩
  obtain ⟨h0, h1, h2, h3⟩ := hm c
  obtain ⟨r0, r1, r2, ha⟩ := h c
  refine ⟨r0.trans ?_, r1.trans ?_, r2.trans ?_, ha⟩
  · rw [h0, h1, h2, h3]
  · rw [h0, h3]
  · rw [h0]; exact largest_eq m c

end Cert.Algebraic
end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.ReferenceIdeal.Skeleton
public import proofs.«01_k».proof.Proof.Kernel.Run
public import proofs.«01_k».proof.Proof.Algebraic
public import Idealize.ShloMosaic.Lib.Bf16Pair
public import Idealize.ShloMosaic.Adequacy
public import Idealize.ShloMosaic.Init

@[expose] public section

noncomputable section

namespace Cert.Proof

open Idealize.ShloMosaic Idealize.SL.Sem

/-- The three frames, the rewriting of the kernel's word operations, and the equality of the results. -/
theorem claim : Cert.Claim := ⟨Cert.Kernel.Gen.facts, Cert.KernelIdeal.Gen.facts, Cert.ReferenceIdeal.Gen.facts,
  fun m g _ => Cert.Kernel.Run.frame_claim m g,
  fun m g _ => Cert.KernelIdeal.Val.frame_claim m g,
  fun m g _ => Cert.ReferenceIdeal.Gen.frame m g,
  ⟨IdealRules.bf16_pair.packStatement _, IdealRules.bf16_pair.statement _ _, IdealRules.bf16_pair.statement _ _⟩,
  Cert.Algebraic.algebraic⟩

end Cert.Proof

end
